-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)
  bcast_S_S256 : S_.BroadcastsInDim S256 (![] : Fin 0 → Fin S256.rank)

variable [Facts]

def fn {F : FTy → Type} [FloatOps F] (main_arg0 : FVec F S256x512 .bf16) (main_arg1 : FVec F S512x4096 .bf16) (main_arg2 : IVec S256 32) : IVec S256x512 1 × IVec S512x4096 1 × IVec S256 1 × IVec S256 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_v3 : FVec F S512x4096 .bf16 := Host.absf main_arg1
  let main_cst_0 : FVec F S_ .bf16 := constant S_ .bf16 0x7F80#16
  let main_v4 : FVec F S512x4096 .bf16 := broadcastInDim S512x4096 ![] bcast_S_S512x4096 main_cst_0
  let main_v5 : IVec S512x4096 1 := cmpf .olt main_v3 main_v4
  let main_c : IVec S_ 32 := constantI S_ 32 0#32
  let main_v6 : IVec S256 32 := broadcastInDim S256 ![] bcast_S_S256 main_c
  let main_v7 : IVec S256 1 := cmpi .sge main_arg2 main_v6
  let main_c_1 : IVec S_ 32 := constantI S_ 32 8192#32
  let main_v8 : IVec S256 32 := broadcastInDim S256 ![] bcast_S_S256 main_c_1
  let main_v9 : IVec S256 1 := cmpi .slt main_arg2 main_v8
  (main_v2, main_v5, main_v7, main_v9)
-- ==== Pre_finite_and_in_range_ReferenceIdeal.lean ====
abbrev S256x512 : Shape := ⟨2, ![256, 512]⟩
abbrev S512x8192 : Shape := ⟨2, ![512, 8192]⟩
abbrev S256 : Shape := ⟨1, ![256]⟩
abbrev S_ : Shape := ⟨0, ![]⟩

class Facts : Prop where
  bcast_S_S256x512 : S_.BroadcastsInDim S256x512 (![] : Fin 0 → Fin S256x512.rank)
  bcast_S_S512x8192 : S_.BroadcastsInDim S512x8192 (![] : Fin 0 → Fin S512x8192.rank)
  bcast_S_S256 : S_.BroadcastsInDim S256 (![] : Fin 0 → Fin S256.rank)

variable [Facts]

def fn {F : FTy → Type} [FloatOps F] (main_arg0 : FVec F S256x512 .bf16) (main_arg1 : FVec F S512x8192 .bf16) (main_arg2 : IVec S256 32) : IVec S256x512 1 × IVec S512x8192 1 × IVec S256 1 × IVec S256 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_v3 : FVec F S512x8192 .bf16 := Host.absf main_arg1
  let main_cst_0 : FVec F S_ .bf16 := constant S_ .bf16 0x7F80#16
  let main_v4 : FVec F S512x8192 .bf16 := broadcastInDim S512x8192 ![] bcast_S_S512x8192 main_cst_0
  let main_v5 : IVec S512x8192 1 := cmpf .olt main_v3 main_v4
  let main_c : IVec S_ 32 := constantI S_ 32 0#32
  let main_v6 : IVec S256 32 := broadcastInDim S256 ![] bcast_S_S256 main_c
  let main_v7 : IVec S256 1 := cmpi .sge main_arg2 main_v6
  let main_c_1 : IVec S_ 32 := constantI S_ 32 8192#32
  let main_v8 : IVec S256 32 := broadcastInDim S256 ![] bcast_S_S256 main_c_1
  let main_v9 : IVec S256 1 := cmpi .slt main_arg2 main_v8
  (main_v2, main_v5, main_v7, main_v9)
-- ==== Kernel.lean ====
abbrev S256x512 : Shape := ⟨2, ![256, 512]⟩
abbrev S512x4096 : Shape := ⟨2, ![512, 4096]⟩
abbrev S256 : Shape := ⟨1, ![256]⟩
abbrev S256x4096 : Shape := ⟨2, ![256, 4096]⟩
abbrev S256x4 : Shape := ⟨2, ![256, 4]⟩
abbrev S_ : Shape := ⟨0, ![]⟩
abbrev S256x1 : Shape := ⟨2, ![256, 1]⟩
abbrev S256x2 : Shape := ⟨2, ![256, 2]⟩

abbrev nBuf : Space → Nat
  | .hbm => 5
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256, .i32⟩
  | .hbm, ⟨3, _⟩ => ⟨S256x4096, .f32⟩
  | .hbm, ⟨4, _⟩ => ⟨S256, .f32⟩
  | .local _ .vmem, ⟨0, _⟩ => ⟨S256x4096, .f32⟩
  | .local _ .vmem, ⟨1, _⟩ => ⟨S256, .i32⟩
  | .local _ .vmem, ⟨2, _⟩ => ⟨S256, .f32⟩
  | .local _ .vmem, ⟨3, _⟩ => ⟨S256x4, .f32⟩
  | .local _ .vmem, ⟨4, _⟩ => ⟨S256x4, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_17 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_16 : BitVec 32 := 2#32
  let v40 : BitVec 32 := Scalar.muli v6 c2_i32_16
  let v41 : BitVec 32 := Scalar.addi c0_i32_17 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v42 : BitVec 32 := Scalar.muli v5 c1_i32_18
  let v43 : BitVec 32 := Scalar.addi v41 v42
  v43.toNat
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256 : Shape := ⟨1, ![256]⟩
abbrev S256x8192 : Shape := ⟨2, ![256, 8192]⟩
abbrev S_ : Shape := ⟨0, ![]⟩
abbrev S256x1 : Shape := ⟨2, ![256, 1]⟩
abbrev S256x2 : Shape := ⟨2, ![256, 2]⟩

abbrev nBuf : Space → Nat
  | .hbm => 38
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x8192, .bf16⟩
  | .hbm, ⟨2, _⟩ => ⟨S256, .i32⟩
  | .hbm, ⟨3, _⟩ => ⟨S256x512, .f32⟩
  | .hbm, ⟨4, _⟩ => ⟨S512x8192, .f32⟩
  | .hbm, ⟨5, _⟩ => ⟨S256x8192, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x8192, .f32⟩
  | .hbm, ⟨10, _⟩ => ⟨S256x8192, .f32⟩
  | .hbm, ⟨11, _⟩ => ⟨S256x8192, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256, .f32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S256x1, .i32⟩
  | .hbm, ⟨34, _⟩ => ⟨S256x1, .i32⟩
  | .hbm, ⟨35, _⟩ => ⟨S256x2, .i32⟩
  | .hbm, ⟨36, _⟩ => ⟨S256, .f32⟩
  | .hbm, ⟨37, _⟩ => ⟨S256, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Packed.lean ====
/-
  The four columns a device sends to its peer: column 0 the row sums of the exponentials, column 1 the row's label
  logit (or zero), columns 2 and 3 zero. The kernel fills them by three stores; here is what the three stores leave,
  whatever the buffer held, and what a load of column 0 or of column 1 then reads.
-/
module

public import proofs.«01_k».proof.Proof.Gen.KernelIdeal.Skeleton
public import Idealize.ShloMosaic.Lib.Writes
public import Idealize.ShloMosaic.Lib.ValueIdxCore

@[expose] public section

noncomputable section

namespace Cert.KernelIdeal.Nll

open Idealize.ShloMosaic Idealize.ShloMosaic.ValueIdx Idealize.SL.Sem
open Cert.KernelIdeal.Gen

variable {F : FTy → Type} [FloatOps F]

/-- The rectangles of the three stores: column 0, column 1, columns 2 and 3. -/
abbrev colA : Rect S256x4 := Rect.unit (s := S256x4) ![0, 0] S256x1.size inb_S256x4_S256x1_0_0
abbrev colB : Rect S256x4 := Rect.unit (s := S256x4) ![0, 1] S256x1.size inb_S256x4_S256x1_0_1
abbrev colZ : Rect S256x4 := Rect.unit (s := S256x4) ![0, 2] S256x2.size inb_S256x4_S256x2_0_2

/-- A 256 by 4 array with `a` in column 0, `b` in column 1 and zero in the other two. -/
def packed (a b : FVec F S256x1 .f32) : FVec F S256x4 .f32 := fun i =>
  if (i 1).val = 0 then a (ix2 (n1 := 1) (i 0) 0)
  else if (i 1).val = 1 then b (ix2 (n1 := 1) (i 0) 0)
  else Scalar.ofBits .f32 0x00000000#32

/-- In column 0 the packed array is its first part. -/
theorem packed_at_zero (a b : FVec F S256x1 .f32) (i : S256x4.Idx) (h : (i 1).val = 0) :
    packed a b i = a (ix2 (n1 := 1) (i 0) 0) := if_pos h

/-- In column 1 the packed array is its second part. -/
theorem packed_at_one (a b : FVec F S256x1 .f32) (i : S256x4.Idx) (h : (i 1).val = 1) :
    packed a b i = b (ix2 (n1 := 1) (i 0) 0) := by
  unfold packed; rw [if_neg (by omega), if_pos h]

/-- In columns 2 and 3 the packed array is zero. -/
theorem packed_at_rest (a b : FVec F S256x1 .f32) (i : S256x4.Idx) (h : 2 ≤ (i 1).val) :
    packed a b i = Scalar.ofBits .f32 0x00000000#32 := by
  unfold packed; rw [if_neg (by omega), if_neg (by omega)]

/-- An index of a one-column array is its row and column 0. -/
theorem idx_one_col (x : S256x1.Idx) : ix2 (n1 := 1) (x 0) 0 = x :=
  funext fun k => by
    fin_cases k
    · rfl
    · exact Fin.ext (by have := (x 1).isLt; simp only [Matrix.cons_val_one, Matrix.cons_val_zero] at this; show 0 = (x 1).val; omega)

/-- A place of a one-column rectangle, coordinate by coordinate. -/
theorem colA_row (x : S256x1.Idx) : (colA.emb x) 0 = x 0 := Fin.ext (by show 0 + 1 * (x 0).val = (x 0).val; omega)
theorem colA_col (x : S256x1.Idx) : ((colA.emb x) 1).val = 0 := by
  have := (x 1).isLt; simp only [Matrix.cons_val_one, Matrix.cons_val_zero] at this
  show 0 + 1 * (x 1).val = 0; omega
theorem colB_row (x : S256x1.Idx) : (colB.emb x) 0 = x 0 := Fin.ext (by show 0 + 1 * (x 0).val = (x 0).val; omega)
theorem colB_col (x : S256x1.Idx) : ((colB.emb x) 1).val = 1 := by
  have := (x 1).isLt; simp only [Matrix.cons_val_one, Matrix.cons_val_zero] at this
  show 1 + 1 * (x 1).val = 1; omega
theorem colZ_col (x : S256x2.Idx) : 2 ≤ ((colZ.emb x) 1).val := by
  show 2 ≤ 2 + 1 * (x 1).val; omega

/-- The packed array read at column 0's places is the first part. -/
theorem packed_colA (a b : FVec F S256x1 .f32) (x : S256x1.Idx) : packed a b (colA.emb x) = a x :=
  (packed_at_zero _ _ _ (colA_col x)).trans
    (congrArg a ((congrArg (fun r => ix2 (n0 := 256) (n1 := 1) r 0) (colA_row x)).trans (idx_one_col x)))
/-- The packed array read at column 1's places is the second part. -/
theorem packed_colB (a b : FVec F S256x1 .f32) (x : S256x1.Idx) : packed a b (colB.emb x) = b x :=
  (packed_at_one _ _ _ (colB_col x)).trans
    (congrArg b ((congrArg (fun r => ix2 (n0 := 256) (n1 := 1) r 0) (colB_row x)).trans (idx_one_col x)))
/-- The packed array read at the last two columns' places is the zero block the kernel stores there. -/
theorem packed_colZ (a b : FVec F S256x1 .f32) (x : S256x2.Idx) : packed a b (colZ.emb x) = (k0_pay1 : FVec F S256x2 .f32) x := by
  rw [packed_at_rest _ _ _ (colZ_col x)]; rfl

/-- Every place of the array lies in one of the three rectangles. -/
theorem cols_cover (y : S256x4.Idx) : y ∈ colA.set ∨ y ∈ colB.set ∨ y ∈ colZ.set := by
  have h0 := (y 0).isLt
  have h1 := (y 1).isLt
  simp only [Matrix.cons_val_zero, Matrix.cons_val_one] at h0 h1
  simp only [Rect.mem_set_unit, Fin.forall_fin_two, Matrix.cons_val_zero, Matrix.cons_val_one]
  omega

/-- What the kernel's three stores leave in the send buffer, whatever it held: the packed array. -/
theorem stores_packed (f : (cc0_scratch0 : Ref sig .tc).ty.Contents (Elt F)) (a b : FVec F S256x1 .f32) :
    (Memref.whole cc0_scratch0 : Memref sig .tc .vmem S256x4 .f32).view.writes (Elt F) f [⟨colZ, k0_pay1⟩, ⟨colB, b⟩, ⟨colA, a⟩]
      = packed a b := by
  refine (View.read_whole (Val := Elt F) cc0_scratch0 _).symm.trans (funext fun y => ?_)
  refine View.read_writes_apply_of_pieces (Val := Elt F) (s := S256x4) (e := .f32) _ _ (packed a b) _ ?_ y ?_
  · intro p hp x
    simp only [List.mem_cons, List.not_mem_nil, or_false] at hp
    rcases hp with rfl | rfl | rfl
    · exact (packed_colZ a b x).symm
    · exact (packed_colB a b x).symm
    · exact (packed_colA a b x).symm
  · rcases cols_cover y with h | h | h
    · exact ⟨⟨colA, a⟩, by simp, h⟩
    · exact ⟨⟨colB, b⟩, by simp, h⟩
    · exact ⟨⟨colZ, k0_pay1⟩, by simp, h⟩

/-- A load of column 0 of the landing buffer, when it holds a packed array, reads the first part. -/
theorem load_colA (a b : FVec F S256x1 .f32) :
    (Memref.whole cc0_scratch1 : Memref sig .tc .vmem S256x4 .f32).view.readAt (Elt F) colA.toLoadRect (packed a b) = a :=
  funext fun x => packed_colA a b x
/-- A load of column 1 of the landing buffer, when it holds a packed array, reads the second part. -/
theorem load_colB (a b : FVec F S256x1 .f32) :
    (Memref.whole cc0_scratch1 : Memref sig .tc .vmem S256x4 .f32).view.readAt (Elt F) colB.toLoadRect (packed a b) = b :=
  funext fun x => packed_colB a b x

end Cert.KernelIdeal.Nll

end
-- ==== Proof.Protocol.lean ====
/-
  The exchange between the two devices of one mesh column, as a rounds schedule. Each device has three semaphores that
  take part: the barrier (its peer announces there that the landing buffer may be written), the departure semaphore (its
  own copy has read the send buffer) and the arrival semaphore (its peer's copy has landed). Each is paid once.
-/
module

public import proofs.«01_k».proof.Proof.Packed
public import proofs.«01_k».proof.Proof.Gen.KernelIdeal.Launch
public import Idealize.ShloMosaic.Lib.Pipeline.Kit
public import Idealize.ShloMosaic.Lib.Rounds
public import Idealize.ShloMosaic.Lib.Tactic

@[expose] public section

noncomputable section

namespace Cert.KernelIdeal.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type}

/-! ## The peer -/

/-- The device in the other row of the mesh, same column: device `2x + y` has peer `2(1 - x) + y`. -/
def peer (c : Dev nD) : Dev nD := ⟨(c.val % 2 + 2) - 2 * (c.val / 2), by have h : c.val < 4 := c.isLt; show _ < 4; omega⟩
/-- The peer's peer is the device itself. -/
theorem peer_peer (c : Dev nD) : peer (peer c) = c := by revert c; decide
/-- Taking the peer, as a permutation of the devices. -/
def swap : Dev nD ≃ Dev nD := ⟨peer, peer, peer_peer, peer_peer⟩
/-- The device the kernel signals is the peer. -/
theorem signalled_peer (c : Dev nD) : (⟨k0_dev1 c, k0_dev1_lt c⟩ : Dev nD) = peer c := Fin.ext (k0_dev1_eq c)
/-- The device the kernel copies to is the peer. -/
theorem copied_peer (c : Dev nD) : (⟨k0_dev2 c, k0_dev2_lt c⟩ : Dev nD) = peer c := Fin.ext (k0_dev2_eq c)

/-! ## The resources -/

/-- Two copies of the rounds algebra: the window pipeline's, and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

/-- The three semaphores of the exchange. -/
inductive Port | barrier | depart | arrive
  deriving DecidableEq

/-- Where each of the three is in the program's signature. -/
abbrev Port.at : Port → SemLoc sig
  | .barrier => .reg (SemArray.scalar (sig.barrier 0 rfl) : Sems sig S_).sem
  | .depart => .dma cc0_scratch2.sem
  | .arrive => .dma cc0_scratch3.sem

/-- Which of the three a semaphore is, if any. -/
def portOf (s : SemLoc sig) : Option Port :=
  if s = Port.barrier.at then some .barrier
  else if s = Port.depart.at then some .depart
  else if s = Port.arrive.at then some .arrive else none

theorem portOf_at (k : Port) : portOf k.at = some k := by cases k <;> decide
theorem at_inj {k k' : Port} (h : k.at = k'.at) : k = k' :=
  Option.some.inj ((portOf_at k).symm.trans ((congrArg portOf h).trans (portOf_at k')))

/-- Device `c`'s semaphore of a kind. -/
abbrev cell (k : Port) (c : Dev nD) : GSem nD τ sig := ((c : Thread nD τ), k.at)

theorem portOf_cell (k : Port) (c : Dev nD) : portOf (cell k c).2 = some k := portOf_at k

/-- The send buffer and the landing buffer. -/
abbrev outM : Memref sig .tc .vmem S256x4 .f32 := Memref.whole cc0_scratch0
abbrev inM : Memref sig .tc .vmem S256x4 .f32 := Memref.whole cc0_scratch1

/-- What one copy credits. -/
abbrev N : ℕ := inM.view.dmaCredit
theorem N_pos : 0 < N := View.dmaCredit_pos _ (by decide)

/-- What one contribution to a semaphore of each kind is worth. -/
def units : Port → ℕ | .barrier => 1 | _ => N
theorem units_depart : units .depart = N := rfl
theorem units_arrive : units .arrive = N := rfl
theorem units_pos (k : Port) : 0 < units k := by cases k; exacts [Nat.one_pos, N_pos, N_pos]

/-- Device `c`'s send buffer at contents `f`; its landing buffer at contents `f`. -/
abbrev outPts (c : Dev nD) (f : (cc0_scratch0 : Ref sig .tc).ty.Contents (Elt F)) : sProp 𝕄 :=
  outM.view.loc (c : Thread nD τ) ↦[outM.view.set]{fullShare} f
abbrev inPts (c : Dev nD) (f : (cc0_scratch1 : Ref sig .tc).ty.Contents (Elt F)) : sProp 𝕄 :=
  inM.view.loc (c : Thread nD τ) ↦[inM.view.set]{fullShare} f

/-- Both buffers are held whole. -/
theorem outPts_eq (c : Dev nD) (f : (cc0_scratch0 : Ref sig .tc).ty.Contents (Elt F)) :
    outPts c f = (((c : Thread nD τ).loc cc0_scratch0) ↦{fullShare} f : sProp 𝕄) := by
  rw [show outPts c f = (outM.view.loc (c : Thread nD τ) ↦[outM.view.set]{fullShare} f : sProp 𝕄) from rfl,
    show outM.view.set = Finset.univ from View.set_whole _]
theorem inPts_eq (c : Dev nD) (f : (cc0_scratch1 : Ref sig .tc).ty.Contents (Elt F)) :
    inPts c f = (((c : Thread nD τ).loc cc0_scratch1) ↦{fullShare} f : sProp 𝕄) := by
  rw [show inPts c f = (inM.view.loc (c : Thread nD τ) ↦[inM.view.set]{fullShare} f : sProp 𝕄) from rfl,
    show inM.view.set = Finset.univ from View.set_whole _]

/-- A copy of a whole send buffer over a whole landing buffer leaves what was sent. -/
theorem copy_leaves (fd fs : FVec F S256x4 .f32) :
    inM.view.write (Elt F) fd (outM.view.read (Elt F) fs) Finset.univ = fs := by
  show (View.whole cc0_scratch1).write (Elt F) fd ((View.whole cc0_scratch0).read (Elt F) fs) Finset.univ = fs
  rw [View.read_whole]
  exact View.write_whole_univ _ _ _

/-! ## The schedule

`P c` is what device `c` sends: the schedule, and the run, are stated at any such family. -/

variable (P : Dev nD → FVec F S256x4 .f32)

/-- What a contribution brings to device `c`: at the barrier the peer's landing buffer, ready to be written and its arrival
    semaphore in use; at the departure the send buffer back; at the arrival the landing buffer with what the peer sent. -/
def brings : Port → Dev nD → sProp 𝕄
  | .barrier, c => iprop((∃ f, inPts (peer c) f) ∗ reached EX (cell .arrive (peer c)) 0)
  | .depart, c => outPts c (P c)
  | .arrive, c => inPts c (P (peer c))

instance brings_storable (k : Port) (c : Dev nD) : BI.Storable (upEmb : UEmb _ 𝕄) (brings P k c) := by
  cases k <;> unfold brings <;> infer_instance

/-- One contribution, in round 0, to each of the three semaphores of each TensorCore. -/
def plan : Rounds.Schedule (GSem nD τ sig) Unit 𝕄 where
  duties g r := if r = 0 ∧ g.1.2 = .tc ∧ (portOf g.2).isSome then {()} else ∅
  unitless _ := False
  amount g _ _ := ((portOf g.2).map units).getD 1
  payload g _ _ := match portOf g.2 with | some k => brings P k g.1.1 | none => iprop(emp)
  amount_pos g _ _ _ := by
    cases portOf g.2 with
    | none => exact Nat.one_pos
    | some k => exact units_pos k

instance plan_storable (g : GSem nD τ sig) (r : ℕ) (d : Unit) :
    BI.Storable (upEmb : UEmb _ 𝕄) ((plan P).payload g r d) := by
  show BI.Storable upEmb (match portOf g.2 with | some k => brings P k g.1.1 | none => iprop(emp))
  split <;> infer_instance

theorem duties_cell (k : Port) (c : Dev nD) : (plan P).duties (cell k c) 0 = {()} := by
  dsimp only [plan]; rw [portOf_at]; exact if_pos ⟨rfl, rfl, rfl⟩
theorem duty_mem (k : Port) (c : Dev nD) : () ∈ (plan P).duties (cell k c) 0 := by
  rw [duties_cell]; exact Finset.mem_singleton_self _
theorem duties_over (g : GSem nD τ sig) (r : ℕ) (h : 0 + 1 ≤ r) : (plan P).duties g r = ∅ :=
  if_neg fun h' => by omega
theorem amount_cell (k : Port) (c : Dev nD) (u : Unit) : (plan P).amount (cell k c) 0 u = units k := by
  dsimp only [plan]; rw [portOf_at]; rfl
theorem payload_cell (k : Port) (c : Dev nD) (u : Unit) : (plan P).payload (cell k c) 0 u = brings P k c := by
  dsimp only [plan]; rw [portOf_at]
theorem expect_cell (k : Port) (c : Dev nD) : (plan P).expect (cell k c) 0 = units k := by
  unfold Schedule.expect Schedule.amountOf; rw [duties_cell, Finset.sum_singleton, amount_cell]
/-- All a round of one contribution brings is what the contribution brings. -/
theorem round_brings (k : Port) (c : Dev nD) :
    bigSep ((plan P).duties (cell k c) 0 \ ∅) (fun u => (plan P).payload (cell k c) 0 u) = brings P k c := by
  rw [Finset.sdiff_empty, duties_cell, bigSep_singleton, payload_cell]

/-- A semaphore whose round is over gives its counter back at zero. -/
theorem cell_done (κ : ℕ) (g : GSem nD τ sig) :
    iprop(cellInv EX (plan P) κ g ∗ atPos EX g (0 + 1) ∅ 0) ⊢ (|={Set.univ}=> semVal g 0 : sProp 𝕄) :=
  Rounds.cell_close EX (plan P) (Set.mem_univ κ) id (duties_over P g)

/-- Every semaphore of the schedule counts in units. -/
theorem plan_counts (g : GSem nD τ sig) : ¬(plan P).unitless g := id

-- from here on the schedule is used through the lemmas above only
attribute [irreducible] plan

/-! ## Who owes what, and in which order it is waited for -/

/-- Device `c` owes its peer one arrival and one barrier unit. -/
def dues (c : Dev nD) : CellTallies nD τ sig Unit :=
  tallyAt (cell .arrive (peer c)) () N + tallyAt (cell .barrier (peer c)) () 1

/-- The only index a wait may be at, on a TensorCore's semaphores. -/
def ixs (g : GSem nD τ sig) : Finset Unit := if g.1.2 = .tc then {()} else ∅
/-- The barrier is waited for before the arrival; everything else comes first. -/
def rank (g : GSem nD τ sig) (_ : Unit) : ℕ :=
  match portOf g.2 with | some .barrier => 1 | some .arrive => 2 | _ => 0

theorem ixs_off (g : GSem nD τ sig) (h : g.1.2 ≠ .tc) : ixs g = ∅ := if_neg h
theorem mem_ixs (c : Dev nD) (s : SemLoc sig) : () ∈ ixs ((c : Thread nD τ), s) := by
  rw [show ixs ((c : Thread nD τ), s) = {()} from if_pos rfl]; exact Finset.mem_singleton_self _
theorem rank_barrier (c : Dev nD) : rank (cell .barrier c) () = 1 := by unfold rank; rw [portOf_cell]
theorem rank_arrive (c : Dev nD) : rank (cell .arrive c) () = 2 := by unfold rank; rw [portOf_cell]

/-- A tally at one cell is positive only there. -/
theorem tally_only {g g' : GSem nD τ sig} {n : ℕ} {u : Unit} (h : 0 < (tallyAt g () n : CellTallies nD τ sig Unit) g' u) : g' = g := by
  rw [tallyAt_apply] at h
  by_contra hne
  rw [if_neg fun h' => hne h'.1] at h
  exact Nat.lt_irrefl 0 h

/-- A device owes something only at its peer's arrival or barrier semaphore. -/
theorem dues_only {c : Dev nD} {g : GSem nD τ sig} {u : Unit} (h : 0 < dues c g u) :
    g = cell .arrive (peer c) ∨ g = cell .barrier (peer c) := by
  unfold dues at h
  rw [Pi.add_apply, Finsupp.add_apply] at h
  exact (Nat.add_pos_iff_pos_or_pos.mp h).imp tally_only tally_only

/-- The barrier may be waited for while the peer's arrival is still owed. -/
theorem barrier_waitable (c : Dev nD) :
    (levAts ixs rank : sProp 𝕄) ⊢ MayWait (c : Thread nD τ) Port.barrier.at () (tallyAt (cell .arrive (peer c)) () N) :=
  MayOwe.of_cut (L := ixs) (lev := rank) 1
    (fun p hp => by rw [Finset.mem_singleton.mp hp]; exact mem_ixs _ _)
    (fun g u hg => by obtain rfl := tally_only hg; exact mem_ixs _ _)
    (fun p hp => by rw [Finset.mem_singleton.mp hp]; exact (rank_barrier c).le)
    (fun g u hg => by obtain rfl := tally_only hg; rw [rank_arrive]; decide)

/-! ## What a device holds of the exchange -/

/-- The invariants of the semaphores device `c` touches: its own three, and its peer's barrier and arrival. -/
def known (K : GSem nD τ sig → ℕ) (c : Dev nD) : sProp 𝕄 :=
  iprop(cellInv EX (plan P) (K (cell .barrier c)) (cell .barrier c)
    ∗ cellInv EX (plan P) (K (cell .depart c)) (cell .depart c)
    ∗ cellInv EX (plan P) (K (cell .arrive c)) (cell .arrive c)
    ∗ cellInv EX (plan P) (K (cell .barrier (peer c))) (cell .barrier (peer c))
    ∗ cellInv EX (plan P) (K (cell .arrive (peer c))) (cell .arrive (peer c))
    ∗ reached EX (cell .barrier (peer c)) 0)

instance known_persistent (K : GSem nD τ sig → ℕ) (c : Dev nD) : BI.Persistent (known P K c) := by
  unfold known; infer_instance

/-- The rights to make the three contributions device `c` makes. -/
def rights (c : Dev nD) : sProp 𝕄 :=
  iprop(dutyTok EX (cell .barrier (peer c)) 0 () ∗ dutyTok EX (cell .depart c) 0 () ∗ dutyTok EX (cell .arrive (peer c)) 0 ())

/-- The credit device `c` waits with: its barrier unit and its arrival. -/
def credits (c : Dev nD) : sProp 𝕄 :=
  iprop(cred (tallyAt (cell .barrier c) () 1) ∗ cred (tallyAt (cell .arrive c) () N))

/-- From the launch to the kernel: the two scoped semaphores not yet in use. -/
def waiting (c : Dev nD) : sProp 𝕄 :=
  iprop((∃ K, known P K c ∗ atPos EX (cell .barrier c) 0 ∅ 0 ∗ openTok EX (cell .depart c) ∗ openTok EX (cell .arrive c) ∗ rights c)
    ∗ credits c)

/-- In the kernel: all three semaphores in use, each in its round 0. -/
def entered (c : Dev nD) : sProp 𝕄 :=
  iprop((∃ K, known P K c ∗ atPos EX (cell .barrier c) 0 ∅ 0
      ∗ (atPos EX (cell .depart c) 0 ∅ 0 ∗ reached EX (cell .depart c) 0)
      ∗ (atPos EX (cell .arrive c) 0 ∅ 0 ∗ reached EX (cell .arrive c) 0) ∗ rights c)
    ∗ credits c ∗ levAts ixs rank)

/-- The two scoped semaphores' counters. -/
def scopedZero (c : Dev nD) : sProp 𝕄 := iprop(semVal (cell .depart c) 0 ∗ semVal (cell .arrive c) 0)

/-- With the two scoped counters at zero in hand, the device puts both semaphores in use. -/
theorem enter (c : Dev nD) : iprop(waiting P c ∗ scopedZero c ∗ levAts ixs rank) ⊢ (|={Set.univ}=> entered P c : sProp 𝕄) := by
  unfold waiting entered scopedZero known
  iintro ⟨⟨⟨%K, ⟨#Ib, #Id, #Ia, #Ib', #Ia', #Rb⟩, Pb, Od, Oa, T⟩, C⟩, ⟨Zd, Za⟩, #Lv⟩
  imod (Rounds.cell_open EX (plan P) (g := cell .depart c) (Set.mem_univ (K (cell .depart c)))) $$ [Od Zd] with Pd
  · isplitr; · iexact Id
    isplitl [Od] <;> iassumption
  imod (Rounds.cell_open EX (plan P) (g := cell .arrive c) (Set.mem_univ (K (cell .arrive c)))) $$ [Oa Za] with Pa
  · isplitr; · iexact Ia
    isplitl [Oa] <;> iassumption
  imodintro
  isplitl [Pb Pd Pa T]
  · iexists K
    isplitr
    · isplitr; · iexact Ib
      isplitr; · iexact Id
      isplitr; · iexact Ia
      isplitr; · iexact Ib'
      isplitr; · iexact Ia'
      iexact Rb
    isplitl [Pb]; · iexact Pb
    isplitl [Pd]; · iexact Pd
    isplitl [Pa] <;> iassumption
  isplitl [C]; · iexact C
  iexact Lv

end Cert.KernelIdeal.Nll

end
-- ==== Proof.Body.lean ====
/-
  One device's run of the kernel body: from its logits block and the labels, with its share of the exchange, to the
  result block. Stated at any family `P` of sent contents whose value at this device is what this device packs.
-/
module

public import proofs.«01_k».proof.Proof.Protocol

@[expose] public section

noncomputable section

namespace Cert.KernelIdeal.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

variable (P : Dev nD → FVec F S256x4 .f32)

/-! ## The three steps of the exchange -/

/-- A wait for the one contribution to one of the device's own semaphores: the contribution's goods arrive, and the
    semaphore, done with, gives its counter back at zero. -/
theorem await (κ : ℕ) (p : Port) (c : Dev nD) {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ p.at (units p) K)
    {α : Type} {Q : α → sProp 𝕄} {k : PUnit → Prog (TpuEff nD τ sig (Elt F) Λ₀ .tc) α}
    (O : CellTallies nD τ sig Unit) (W : Waits sig Unit) :
    iprop(cellInv EX (plan P) κ (cell p c) ∗ cred (tallyAt (cell p c) () (units p)) ∗ owes (c : Thread nD τ) O W
        ∗ MayWait (c : Thread nD τ) p.at () O ∗ atPos EX (cell p c) 0 ∅ 0)
      ⊢ iprop(((owes (c : Thread nD τ) O (insert (p.at, ()) W) ∗ semVal (cell p c) 0 ∗ brings P p c)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#I, C, HO, M, A⟩ Hk
  iapply (Rounds.wp_wait_rest_token 𝒱₀ EX (plan P) (c : Thread nD τ) none (κ := κ) hw (Set.mem_univ _) ()
      (O := O) (W := W) (R := 0) (m := 0) (T := ∅) ((Nat.zero_add _).trans (expect_cell P p c).symm)) $$ [C HO M A]
  · isplitr; · iexact I
    isplitl [C]; · iexact C
    isplitl [HO]; · iexact HO
    isplitl [M] <;> iassumption
  iintro ⟨HO, A, -, G⟩
  imod (cell_done P κ (cell p c)) $$ [A] with Z
  · isplitr; · iexact I
    iexact A
  iapply Hk
  isplitl [HO]; · iexact HO
  isplitl [Z]; · iexact Z
  iapply (Entails.of_eq (round_brings P p c))
  iexact G

/-- The signal to the peer: the device's landing buffer goes to the peer with it, and one of the two dues is paid. -/
theorem announce (κ : ℕ) (c n : Dev nD) (hn : n = peer c) (f : FVec F S256x4 .f32) (W : Waits sig Unit)
    {α : Type} {Q : α → sProp 𝕄} {k : PUnit → Prog (TpuEff nD τ sig (Elt F) Λ₀ .tc) α} :
    iprop(cellInv EX (plan P) κ (cell .barrier (peer c)) ∗ owes (c : Thread nD τ) (dues c) W
        ∗ dutyTok EX (cell .barrier (peer c)) 0 () ∗ inPts c f ∗ reached EX (cell .arrive c) 0
        ∗ reached EX (cell .barrier (peer c)) 0)
      ⊢ iprop((owes (c : Thread nD τ) (tallyAt (cell .arrive (peer c)) () N) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, .tc) (SemArray.scalar (sig.barrier 0 rfl) : Sems sig S_).sem (1#32).toInt) k) Q) := by
  subst hn
  iintro ⟨#I, HO, T, B, R, Rb⟩ Hk
  iapply (Rounds.wp_signal 𝒱₀ EX (plan P) (c : Thread nD τ) none (dst := (peer c : Thread nD τ)) (r := 0) (d := ()) (κ := κ)
      (duty_mem P .barrier (peer c)) ((amount_cell P .barrier (peer c) ()).trans (by decide)) ()
      (tallyAt (cell .arrive (peer c)) () N) rfl) $$ [HO T B R Rb]
  · isplitr; · iexact I
    isplitl [HO]; · iexact HO
    isplitl [T]; · iexact T
    isplitl [B R]
    · iapply (Entails.of_eq (payload_cell P .barrier (peer c) ()).symm)
      dsimp only [brings]; rw [peer_peer]
      isplitl [B]; · iexists f; iexact B
      iexact R
    iexact Rb
  iexact Hk

omit [FloatOps F] in
/-- The peer's landing buffer after the copy is what the arrival brings the peer. -/
theorem arrived (c : Dev nD) (f : FVec F S256x4 .f32) :
    (inM.view.loc (peer c : Thread nD τ) ↦[inM.view.set]{fullShare}
        (inM.view.write (Elt F) f (outM.view.read (Elt F) (P c)) Finset.univ) : sProp 𝕄) = brings P .arrive (peer c) := by
  dsimp only [brings]; rw [peer_peer, copy_leaves]

omit [FloatOps F] in
/-- The send buffer at what is sent is what the departure brings back. -/
theorem departed (c : Dev nD) :
    (outM.view.loc (c : Thread nD τ) ↦[outM.view.set]{fullShare} (P c) : sProp 𝕄) = brings P .depart c := by
  dsimp only [brings]

/-- The copy to the peer: it reads the send buffer, now at `P c`, and lands it in the peer's landing buffer. -/
theorem transmit (κ κ' : ℕ) (c n : Dev nD) (hn : n = peer c)
    {hsc : (inM : Memref sig (Dev.tc n : Thread nD τ).2.kind .vmem S256x4 .f32).view.ref.isScScratch = false}
    {hsrc : (outM : Memref sig .tc .vmem S256x4 .f32).view.WordExact} {hdst : (inM : Memref sig .tc .vmem S256x4 .f32).view.WordExact}
    {hsem : DmaTarget.Typed .vmem (.dma cc0_scratch3.sem)
      (.remote (Dev.tc n : Thread nD τ) (inM : Memref sig .tc .vmem S256x4 .f32) (.dma cc0_scratch2.sem) hsc)}
    (f : FVec F S256x4 .f32) (W : Waits sig Unit)
    {α : Type} {Q : α → sProp 𝕄} {k : PUnit → Prog (TpuEff nD τ sig (Elt F) Λ₀ .tc) α} :
    iprop(cellInv EX (plan P) κ (cell .depart c) ∗ cellInv EX (plan P) κ' (cell .arrive (peer c))
        ∗ outPts c (P c) ∗ inPts (peer c) f ∗ owes (c : Thread nD τ) (tallyAt (cell .arrive (peer c)) () N) W
        ∗ dutyTok EX (cell .depart c) 0 () ∗ reached EX (cell .depart c) 0
        ∗ dutyTok EX (cell .arrive (peer c)) 0 () ∗ reached EX (cell .arrive (peer c)) 0)
      ⊢ iprop(((cred (tallyAt (cell .depart c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma outM (.remote (Dev.tc n : Thread nD τ) inM (.dma cc0_scratch2.sem) hsc) (.dma cc0_scratch3.sem)
                hsrc hdst hsem) k) Q) := by
  subst hn
  have e1 : (outM.view.loc (c : Thread nD τ) ↦[outM.view.set]{fullShare} (P c) : sProp 𝕄) ⊢ (plan P).payload ((c : Thread nD τ), .dma cc0_scratch2.sem) 0 () :=
    Entails.of_eq ((departed P c).trans (payload_cell P .depart c ()).symm)
  have e2 : (inM.view.loc (peer c : Thread nD τ) ↦[inM.view.set]{fullShare}
        (inM.view.write (Elt F) f (outM.view.read (Elt F) (P c)) Finset.univ) : sProp 𝕄) ⊢ (plan P).payload ((peer c : Thread nD τ), .dma cc0_scratch3.sem) 0 () :=
    Entails.of_eq ((arrived P c f).trans (payload_cell P .arrive (peer c) ()).symm)
  exact Rounds.wp_send_pointsTo 𝒱₀ EX (plan P) (c : Thread nD τ) none (c' := (peer c : Thread nD τ)) (src := outM) (dst := inM)
    (sS := .dma cc0_scratch2.sem) (sem := .dma cc0_scratch3.sem) (q := fullShare) (κ₁ := κ) (κ₂ := κ')
    (r₁ := 0) (r₂ := 0) (d₁ := ()) (d₂ := ()) (fs := P c) (fd := f) (duty_mem P .depart c) (duty_mem P .arrive (peer c))
    () () N rfl ((amount_cell P .depart c ()).trans units_depart)
    ((amount_cell P .arrive (peer c) ()).trans units_arrive) 0 (by rw [zero_add]) (W := W) e1 e2

/-- The wait for the departure takes exactly its one contribution. -/
theorem depart_wait (c : Dev nD) {hs : (inM : Memref sig .tc .vmem S256x4 .f32).view.WordExact}
    {hd : (outM : Memref sig .tc .vmem S256x4 .f32).view.WordExact} (K : PUnit → sProp 𝕄) :
    wpE (defs₀ (F := F)) 𝒱₀ (c : Thread nD τ) none Set.univ (.waitDma2 cc0_scratch2.sem inM outM hs hd) K
      = waitSpec (c : Thread nD τ) Set.univ Port.depart.at (units .depart) K :=
  wpE_waitDma2_eq 𝒱₀ (c : Thread nD τ) none Set.univ K

/-- The wait for the arrival takes exactly its one contribution. -/
theorem arrive_wait (c : Dev nD) {hs : (outM : Memref sig .tc .vmem S256x4 .f32).view.WordExact}
    {hd : (inM : Memref sig .tc .vmem S256x4 .f32).view.WordExact} (K : PUnit → sProp 𝕄) :
    wpE (defs₀ (F := F)) 𝒱₀ (c : Thread nD τ) none Set.univ (.waitDma2 cc0_scratch3.sem outM inM hs hd) K
      = waitSpec (c : Thread nD τ) Set.univ Port.arrive.at (units .arrive) K :=
  wpE_waitDma2_eq 𝒱₀ (c : Thread nD τ) none Set.univ K

/-! ## The whole body -/

/-- What device `c` packs, from its logits block and the labels. -/
def sends (c : Dev nD) (x : FVec F S256x4096 .f32) (y : IVec S256 32) : FVec F S256x4 .f32 :=
  packed (k0_pay6 x) (k0_pay7 c x y)

/-- What device `c` writes, from its own logits block and the peer's, and the labels both have. -/
def writesOut (c : Dev nD) (x : FVec F S256x4096 .f32) (y : IVec S256 32) (x' : FVec F S256x4096 .f32) (y' : IVec S256 32) :
    FVec F S256 .f32 :=
  k0_pay2 (k0_pay4 x) (k0_pay5 c x y) (k0_pay6 x') (k0_pay7 (peer c) x' y')

omit [FloatOps F] in
theorem corner2 : (![0, 0] : Fin 2 → Nat) = fun _ => 0 := funext fun a => by fin_cases a <;> rfl
omit [FloatOps F] in
theorem corner1 : (![0] : Fin 1 → Nat) = fun _ => 0 := funext fun a => by fin_cases a; rfl

omit [FloatOps F] in
/-- A load of the whole logits block reads it. -/
theorem load_logits (f : FVec F S256x4096 .f32) :
    (Memref.whole cc0_stg0_0 : Memref sig .tc .vmem S256x4096 .f32).view.readAt (Elt F)
      (Rect.unit (s := S256x4096) ![0, 0] S256x4096.size inb_S256x4096_S256x4096_0_0).toLoadRect f = f :=
  Memref.readAt_unit_zero (Elt F) cc0_stg0_0 corner2 _ f
omit [FloatOps F] in
/-- A load of the whole label block reads it. -/
theorem load_labels (f : IVec S256 32) :
    (Memref.whole cc0_stg1_0 : Memref sig .tc .vmem S256 .i32).view.readAt (Elt F)
      (Rect.unit (s := S256) ![0] S256.size inb_S256_S256_0).toLoadRect f = f :=
  Memref.readAt_unit_zero (Elt F) cc0_stg1_0 corner1 _ f
omit [FloatOps F] in
/-- A store over the whole result block leaves what is stored. -/
theorem store_result (f w : FVec F S256 .f32) :
    ((Memref.whole cc0_stg2_0 : Memref sig .tc .vmem S256 .f32).access
      (Rect.unit (s := S256) ![0] S256.size inb_S256_S256_0) : View sig .tc _ _ _).write (Elt F) f w Finset.univ = w :=
  Memref.write_access_unit_zero_univ (Elt F) cc0_stg2_0 corner1 _ f w

/-- One of a device's own buffers, whole, at given contents. -/
abbrev holds (c : Dev nD) (b : Ref sig .tc) (f : b.ty.Contents (Elt F)) : sProp 𝕄 := ((c : Thread nD τ).loc b) ↦{fullShare} f

/-- The send buffer after the three stores holds the packed array. -/
theorem stored (c : Dev nD) (f : FVec F S256x4 .f32) (a b : FVec F S256x1 .f32) :
    ((outM.access colZ).loc (c : Thread nD τ) ↦{fullShare}
        ((outM.access colZ).write (Elt F) ((outM.access colB).write (Elt F) ((outM.access colA).write (Elt F) f a Finset.univ)
          b Finset.univ) k0_pay1 Finset.univ) : sProp 𝕄)
      ⊢ holds c cc0_scratch0 (packed a b) :=
  Entails.of_eq (congrArg (fun g => holds c cc0_scratch0 g) (stores_packed f a b))

set_option maxHeartbeats 800000 in
/-- The body with everything in place. `x` and `y` are the device's logits block and labels, `x'` and `y'` the peer's. Afterwards
    the result block holds `writesOut`, the three semaphores are back at zero, and nothing is owed. -/
theorem body_run (c : Dev nD) (x x' : FVec F S256x4096 .f32) (y y' : IVec S256 32) (o : FVec F S256 .f32)
    (hP : P c = sends c x y) (hP' : P (peer c) = sends (peer c) x' y') (W : Waits sig Unit) (Kt : PUnit → sProp 𝕄) :
    iprop(entered P c ∗ (∃ f, holds c cc0_scratch0 f) ∗ (∃ f, holds c cc0_scratch1 f)
        ∗ owes (c : Thread nD τ) (dues c) W
        ∗ holds c cc0_stg0_0 x ∗ holds c cc0_stg1_0 y ∗ holds c cc0_stg2_0 o
        ∗ (((semVal (cell .barrier c) 0 ∗ scopedZero c) ∗ (∃ f, holds c cc0_scratch0 f) ∗ (∃ f, holds c cc0_scratch1 f)
              ∗ (∃ W', owes (c : Thread nD τ) (0 : CellTallies nD τ sig Unit) W')
              ∗ holds c cc0_stg0_0 x ∗ holds c cc0_stg1_0 y ∗ holds c cc0_stg2_0 (writesOut c x y x' y')) -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold entered known rights credits scopedZero
  iintro ⟨⟨⟨%K, ⟨#Ib, #Id, #Ia, #Ib', #Ia', #Rb'⟩, Ab, ⟨Ad, #Rd⟩, ⟨Aa, #Ra⟩, Tb, Td, Ta⟩, ⟨Cb, Ca⟩, #Lv⟩,
    ⟨%f0, Bo⟩, ⟨%f1, Bi⟩, HO, Hx, Hy, Ho, Hk⟩
  -- the signal, with the landing buffer
  ihave Bi := (Entails.of_eq (inPts_eq c f1).symm) $$ Bi
  iapply (announce P (K (cell .barrier (peer c))) c _ (signalled_peer c) f1 W) $$ [HO Tb Bi]
  · isplitr; · iexact Ib'
    isplitl [HO]; · iexact HO
    isplitl [Tb]; · iexact Tb
    isplitl [Bi]; · iexact Bi
    isplitr; · iexact Ra
    iexact Rb'
  iintro HO
  -- the local part: both blocks read, the four columns packed
  iapply (wp_load 𝒱₀ (c : Thread nD τ) none Set.univ (m := Memref.whole cc0_stg0_0) (Finset.subset_univ _)) $$ Hx; iintro Hx
  rw [load_logits]
  iapply (wp_load 𝒱₀ (c : Thread nD τ) none Set.univ (m := Memref.whole cc0_stg1_0) (Finset.subset_univ _)) $$ Hy; iintro Hy
  rw [load_labels]
  iapply (wp_load 𝒱₀ (c : Thread nD τ) none Set.univ (m := outM) (Finset.subset_univ _)) $$ Bo; iintro Bo
  iapply (wp_store 𝒱₀ (c : Thread nD τ) none Set.univ (m := outM) (r := colA) (Mk := Finset.univ) (Finset.subset_univ _)) $$ Bo; iintro Bo
  iapply (wp_load 𝒱₀ (c : Thread nD τ) none Set.univ (m := outM) (Finset.subset_univ _)) $$ Bo; iintro Bo
  iapply (wp_store 𝒱₀ (c : Thread nD τ) none Set.univ (m := outM) (r := colB) (Mk := Finset.univ) (Finset.subset_univ _)) $$ Bo; iintro Bo
  iapply (wp_load 𝒱₀ (c : Thread nD τ) none Set.univ (m := outM) (Finset.subset_univ _)) $$ Bo; iintro Bo
  iapply (wp_store 𝒱₀ (c : Thread nD τ) none Set.univ (m := outM) (r := colZ) (Mk := Finset.univ) (Finset.subset_univ _)) $$ Bo; iintro Bo
  have hs : packed (k0_pay6 x) (k0_pay7 c x y) = P c := hP.symm
  ihave Bo := (stored c f0 (k0_pay6 x) (k0_pay7 c x y)) $$ Bo
  ihave Bo := (Entails.of_eq ((congrArg (fun f => holds c cc0_scratch0 f) hs).trans (outPts_eq c (P c)).symm)) $$ Bo
  -- the wait for the peer's signal: the peer's landing buffer
  iapply (await P (K (cell .barrier c)) .barrier c (wpE_semWait_eq 𝒱₀ (c : Thread nD τ) none Set.univ)
    (tallyAt (cell .arrive (peer c)) () N) W) $$ [Cb HO Ab]
  · isplitr; · iexact Ib
    isplitl [Cb]; · iexact Cb
    isplitl [HO]; · iexact HO
    isplitr; · iapply (barrier_waitable c); iexact Lv
    iexact Ab
  dsimp only [brings]
  iintro ⟨HO, Zb, ⟨%fn, Bn⟩, #Ra'⟩
  -- the copy, and the waits for its departure and for the peer's arrival
  iapply (transmit P (K (cell .depart c)) (K (cell .arrive (peer c))) c _ (copied_peer c) fn _) $$ [Bo Bn HO Td Ta]
  · isplitr; · iexact Id
    isplitr; · iexact Ia'
    isplitl [Bo]; · iexact Bo
    isplitl [Bn]; · iexact Bn
    isplitl [HO]; · iexact HO
    isplitl [Td]; · iexact Td
    isplitr; · iexact Rd
    isplitl [Ta]; · iexact Ta
    iexact Ra'
  iintro ⟨Cd, HO⟩
  iapply (await P (K (cell .depart c)) .depart c (depart_wait c) 0 _) $$ [Cd HO Ad]
  · isplitr; · iexact Id
    isplitl [Cd]; · iexact Cd
    isplitl [HO]; · iexact HO
    isplitr; · rw [MayWait_zero]; iempintro
    iexact Ad
  dsimp only [brings]
  iintro ⟨HO, Zd, Bo⟩
  iapply (await P (K (cell .arrive c)) .arrive c (arrive_wait c) 0 _) $$ [Ca HO Aa]
  · isplitr; · iexact Ia
    isplitl [Ca]; · iexact Ca
    isplitl [HO]; · iexact HO
    isplitr; · rw [MayWait_zero]; iempintro
    iexact Aa
  dsimp only [brings]
  iintro ⟨HO, Za, Bi⟩
  ihave Bo := (Entails.of_eq (outPts_eq c (P c))) $$ Bo
  ihave Bi := (Entails.of_eq (inPts_eq c (P (peer c)))) $$ Bi
  rw [hP']
  -- the combination
  iapply (wp_load 𝒱₀ (c : Thread nD τ) none Set.univ (m := inM) (Finset.subset_univ _)) $$ Bi; iintro Bi
  iapply (wp_load 𝒱₀ (c : Thread nD τ) none Set.univ (m := inM) (Finset.subset_univ _)) $$ Bi; iintro Bi
  iapply (wp_load 𝒱₀ (c : Thread nD τ) none Set.univ (m := Memref.whole cc0_stg2_0) (Finset.subset_univ _)) $$ Ho; iintro Ho
  iapply (wp_store 𝒱₀ (c : Thread nD τ) none Set.univ (m := Memref.whole cc0_stg2_0)
    (r := Rect.unit (s := S256) ![0] S256.size inb_S256_S256_0) (Mk := Finset.univ) (Finset.subset_univ _)) $$ Ho; iintro Ho
  unfold sends
  rw [load_colA, load_colB, store_result, wp_ret]
  imodintro
  iapply Hk
  isplitl [Zb Zd Za]
  · isplitl [Zb]; · iexact Zb
    isplitl [Zd] <;> iassumption
  isplitl [Bo]; · iexists _; iexact Bo
  isplitl [Bi]; · iexists _; iexact Bi
  isplitl [HO]; · iexists _; iexact HO
  isplitl [Hx]; · iexact Hx
  isplitl [Hy]; · iexact Hy
  iexact Ho

end Cert.KernelIdeal.Nll

end
-- ==== Proof.Region.lean ====
/-
  The kernel's region: the pipeline's data (what the windows hold, what is owed) and its body obligation, from the body's
  run of `Body.lean`; and the region as a segment of the program.
-/
module

public import proofs.«01_k».proof.Proof.Body
public import proofs.«01_k».proof.Proof.Gen.KernelIdeal.Frame
public import Idealize.ShloMosaic.Lib.Pipeline.RegionTalk
public import Idealize.ShloMosaic.Lib.Pipeline.ValueKit

@[expose] public section

noncomputable section

namespace Cert.KernelIdeal.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## The contents -/

/-- Device `c`'s buffers when the region is entered, and when it is left: the result written. -/
abbrev before (c : Dev nD) : Valuation τ sig (Elt F) := StableHlo.after hostOps0 (fun b => m (c, b))

/-- Device `c`'s logits block and labels. -/
def logits (c : Dev nD) : FVec F S256x4096 .f32 := V m c main_v1
def labels (c : Dev nD) : IVec S256 32 := V m c main_arg2

/-- What device `c` sends to its peer. -/
def sent (c : Dev nD) : FVec F S256x4 .f32 := sends c (logits m c) (labels m c)

/-- Device `c`'s result. -/
def result (c : Dev nD) : FVec F S256 .f32 :=
  writesOut c (logits m c) (labels m c) (logits m (peer c)) (labels m (peer c))

abbrev afterwards (c : Dev nD) : Valuation τ sig (Elt F) := Function.update (before m c) (Proc.devRef .tc main_v2) (result m c)

/-! ## The pipeline's data -/

/-- The scratch buffers, at contents not chosen. -/
def scratch (c : Dev nD) : sProp 𝕄 := iprop((∃ f, holds c cc0_scratch0 f) ∗ (∃ f, holds c cc0_scratch1 f))

/-- What holds around the grid point, and what is owed there. -/
def standing (c : Dev nD) : ℕ → sProp 𝕄
  | 0 => iprop(entered (sent m) c ∗ scratch c ∗ ∃ r, prngReg c r)
  | _ + 1 => iprop((semVal (cell .barrier c) 0 ∗ scopedZero c) ∗ scratch c ∗ ∃ r, prngReg c r)
def debt (c : Dev nD) : ℕ → CellTallies nD τ sig Unit
  | 0 => dues c
  | _ + 1 => 0

/-- Before the one grid point the exchange is entered and the dues are owed; after it the semaphores are back at zero. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => result m c
  Φ t := standing m c t.val
  q _ := fullShare
  owed t := debt c t.val

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem after_point : (Fin.last cfg0.N).val = 1 := by decide

theorem owed_last (c : Dev nD) : (dat m c).owed (Fin.last _) = 0 := congrArg (debt c) after_point
theorem inv_last (c : Dev nD) :
    (dat m c).Φ (Fin.last _) = iprop((semVal (cell .barrier c) 0 ∗ scopedZero c) ∗ scratch c ∗ ∃ r, prngReg c r) :=
  congrArg (standing m c) after_point

/-- Every window's block index at the one point. -/
theorem at_origin : ∀ t : Fin cfg0.N, win0_0.index t = ![0, 0] ∧ win0_1.index t = ![0] ∧ win0_2.index t = ![0] :=
  (by decide +kernel : ∀ t : Fin grid0.N, _)

/-- Each window's one block is its whole array. -/
theorem block_logits (c : Dev nD) : iblk m c 0 t0_0 = logits m c := by
  unfold logits
  blk_ext! [iblk, at_origin t0_0]
theorem block_labels (c : Dev nD) : iblk m c 1 t0_0 = labels m c := by
  unfold labels
  blk_ext! [iblk, at_origin t0_0]

/-- What the body finds staged, and the result array at the end. -/
theorem finds_logits (c : Dev nD) (d) : (dat m c).before 0 t0_0 d = logits m c :=
  ((dat m c).before_in_eq_fetched 0 rfl (fun _ => rfl) (fun _ _ _ => rfl) (fun _ => rfl) t0_0 d).trans (block_logits m c)
theorem finds_labels (c : Dev nD) (d) : (dat m c).before 1 t0_0 d = labels m c :=
  ((dat m c).before_in_eq_fetched 1 rfl (fun _ => rfl) (fun _ _ _ => rfl) (fun _ => rfl) t0_0 d).trans (block_labels m c)
theorem leaves_result (c : Dev nD) : (dat m c).arrAt 2 cfg0.N = result m c := by
  refine (dat m c).arrAt_eq_of_after_last 2 t0_0 (by decide +kernel) _ fun j => ?_
  blk_simp
  rfl

/-! ## The body obligation -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f, ⌜f = X⌝ ∗ holds c b f) := by
  unfold owns holds
  simp only [Memref.view_whole, View.read_whole, View.set_whole]

/-- What is owed, out of the pipeline's account of it and back into it. -/
theorem owed_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, H⟩
  iexists W
  iexact H
theorem owed_in (c : Dev nD) (t : Fin (cfg0.N + 1)) (O : CellTallies nD τ sig Unit) (h : (dat m c).owed t = O)
    (W : Waits sig Unit) : (owes (c : Thread nD τ) O W : sProp 𝕄) ⊢ (dat m c).owesAt () t := by
  unfold Dat.owesAt Pipeline.owesWithin Dat.bound
  rw [h]
  iintro H
  iexists W
  isplitr
  · ipureintro; exact fun _ _ => Or.inl trivial
  iexact H

/-- The body at its one grid point, on every device. -/
theorem obligation (c : Dev nD) : BodyObligation (dat m c) defs₀ 𝒱₀ () Set.univ := fun t => by
  obtain rfl := fin_N0 t
  rw [bigSep_W0, bigSep_W0]
  simp only [owns_whole]
  show iprop((entered (sent m) c ∗ scratch c ∗ ∃ r, prngReg c r) ∗ (dat m c).owesAt () t0_0.castSucc
      ∗ (∃ d, ∃ f, ⌜f = (dat m c).before 0 t0_0 d⌝ ∗ holds c cc0_stg0_0 f)
      ∗ (∃ d, ∃ f, ⌜f = (dat m c).before 1 t0_0 d⌝ ∗ holds c cc0_stg1_0 f)
      ∗ (∃ d, ∃ f, ⌜f = (dat m c).before 2 t0_0 d⌝ ∗ holds c cc0_stg2_0 f))
    ⊢ wp frame (wpE defs₀ 𝒱₀ c none) Set.univ
        (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) cc0_scratch2 cc0_scratch3)
        fun _ => iprop(((semVal (cell .barrier c) 0 ∗ scopedZero c) ∗ scratch c ∗ ∃ r, prngReg c r)
          ∗ (dat m c).owesAt () t0_0.succ
          ∗ (∃ f, ⌜f = iblk m c 0 t0_0⌝ ∗ holds c cc0_stg0_0 f)
          ∗ (∃ f, ⌜f = iblk m c 1 t0_0⌝ ∗ holds c cc0_stg1_0 f)
          ∗ (∃ f, ⌜f = result m c⌝ ∗ holds c cc0_stg2_0 f))
  unfold scratch
  iintro ⟨⟨He, ⟨Hs, Hr⟩, Hreg⟩, HO, ⟨%d0, %f0, %h0, H0⟩, ⟨%d1, %f1, %h1, H1⟩, ⟨%d2, %f2, -, H2⟩⟩
  rw [finds_logits] at h0
  rw [finds_labels] at h1
  subst h0 h1
  ihave HO' := (owed_out m c t0_0.castSucc (dues c) rfl) $$ HO
  icases HO' with ⟨%W, HO⟩
  iapply (body_run (sent m) c (logits m c) (logits m (peer c)) (labels m c) (labels m (peer c)) f2 rfl rfl W _)
  isplitl [He]; · iexact He
  isplitl [Hs]; · iexact Hs
  isplitl [Hr]; · iexact Hr
  isplitl [HO]; · iexact HO
  isplitl [H0]; · iexact H0
  isplitl [H1]; · iexact H1
  isplitl [H2]; · iexact H2
  iintro ⟨Hz, Hs, Hr, ⟨%W', HO⟩, H0, H1, H2⟩
  isplitl [Hz Hs Hr Hreg]
  · isplitl [Hz]; · iexact Hz
    isplitr [Hreg]
    · isplitl [Hs] <;> iassumption
    iexact Hreg
  isplitl [HO]
  · iapply (owed_in m c t0_0.succ 0 rfl W'); iexact HO
  isplitl [H0]
  · iexists logits m c
    isplitr; · ipureintro; exact (block_logits m c).symm
    iexact H0
  isplitl [H1]
  · iexists labels m c
    isplitr; · ipureintro; exact (block_labels m c).symm
    iexact H1
  iexists result m c
  isplitr; · ipureintro; rfl
  iexact H2

/-! ## The region as a segment -/

/-- The kernel's own semaphores, in scope while it runs. -/
def own : Fin 2 → SemLoc sig := ![Port.at .depart, Port.at .arrive]

theorem own_zero (c : Dev nD) : (Pipeline.ownSems0 own c : sProp 𝕄) = scopedZero c := BI.bigSep_fin_two _

/-- The device's buffers that are neither staged nor in scope, and the rest of them off the windows' arrays. -/
abbrev bufs : Finset (DevRef τ sig) := Pipeline.ucRefs τ sig
abbrev unstaged : Finset (DevRef τ sig) := bufs \ Pipeline.arrRefs (τ := τ) (pcfgs (F := F) 0).spec

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (c : Dev nD) (w : Fin cfg0.W) : (dat m c).share w = fullShare := by
  unfold Dat.share
  split <;> rfl

theorem afterwards_of_ne (c : Dev nD) {b : DevRef τ sig} (h : b ≠ Proc.devRef .tc main_v2) : afterwards m c b = before m c b :=
  Function.update_of_ne h _ _

theorem result_staged : Proc.devRef .tc main_v2 ∈ Pipeline.arrRefs (τ := τ) (pcfgs (F := F) 0).spec :=
  Finset.mem_map.mpr ⟨main_v2, Finset.mem_image.mpr ⟨(2 : Fin 3), Finset.mem_univ _, rfl⟩, rfl⟩

theorem unstaged_kept (c : Dev nD) : ∀ b ∈ unstaged (F := F) \ ∅, afterwards m c b = before m c b := fun b hb =>
  afterwards_of_ne m c fun e => (Finset.mem_sdiff.mp (Finset.mem_sdiff.mp hb).1).2 (e ▸ result_staged)

theorem arrays_enter (c : Dev nD) (w : Fin cfg0.W) :
    (dat m c).arrAt w 0 = before m c (Proc.devRef .tc (Pipeline.arrRef spec0 w)) := rfl

theorem arrays_leave (c : Dev nD) (w : Fin cfg0.W) :
    (dat m c).arrAt w cfg0.N = afterwards m c (Proc.devRef .tc (Pipeline.arrRef spec0 w)) := by
  match w with
  | ⟨0, _⟩ =>
    exact ((dat m c).arrAt_in 0 rfl _).trans
      (afterwards_of_ne m c (b := Proc.devRef .tc main_v1) (StableHlo.devRef_ne_of_ne (by decide))).symm
  | ⟨1, _⟩ =>
    exact ((dat m c).arrAt_in 1 rfl _).trans
      (afterwards_of_ne m c (b := Proc.devRef .tc main_arg2) (StableHlo.devRef_ne_of_ne (by decide))).symm
  | ⟨2, _⟩ => exact (leaves_result m c).trans (Function.update_self (Proc.devRef (τ := τ) .tc main_v2) (result m c) (before m c)).symm

theorem staging_portless : ∀ (w : Fin cfg0.W) (s : Fin (cfg0.win w).nbuf), portOf (.dma ((cfg0.win w).sem s)) = none := by
  decide
theorem staging_low {c : Dev nD} (w : Fin cfg0.W) (s : Fin (cfg0.win w).nbuf) :
    rank ((c : Thread nD τ), .dma ((cfg0.win w).sem s)) () = 0 := by
  show (match portOf (.dma ((cfg0.win w).sem s)) with | some .barrier => 1 | some .arrive => 2 | _ => 0) = 0
  rw [staging_portless w s]

/-- The staging buffers' semaphores rank below everything the region owes. -/
theorem cut : Pipeline.LevelCutOwed (pcfgs (F := F)) adm (pdats m) () ixs rank 0 (fun _ => 0) where
  hι c _ _ := mem_ixs c _
  hιb c w s := (staging_low w s).le
  hD c t g u h := by
    match t with
    | ⟨0, _⟩ =>
      rcases dues_only (c := c) (g := g) (u := u) h with rfl | rfl
      · exact ⟨mem_ixs _ _, by rw [rank_arrive]; decide⟩
      · exact ⟨mem_ixs _ _, by rw [rank_barrier]; decide⟩
    | ⟨_ + 1, _⟩ => exact absurd h (Nat.lt_irrefl 0)

theorem held_none (c : Dev nD) (W : Valuation τ sig (Elt F)) :
    (StableHlo.held (c.tc : Thread nD τ) ∅ W : sProp 𝕄) = BI.emp := BI.bigSep_empty

theorem enters (c : Dev nD) :
    iprop(Pipeline.scopedRest spec0 c ∗ (∃ r, prngReg c r) ∗ StableHlo.held (c.tc : Thread nD τ) ∅ (before m c)
      ∗ entered (sent m) c) ⊢ (dat m c).Φ 0 := by
  show _ ⊢ iprop(entered (sent m) c ∗ scratch c ∗ ∃ r, prngReg c r)
  rw [scopedRest0_eq]
  unfold scratch holds
  iintro ⟨Hs, Hp, -, He⟩
  isplitl [He]; · iexact He
  isplitl [Hs]; · iexact Hs
  iexact Hp

theorem leaves (c : Dev nD) : (dat m c).Φ (Fin.last cfg0.N)
    ⊢ iprop(Pipeline.scopedRest spec0 c ∗ (∃ r, prngReg c r) ∗ StableHlo.held (c.tc : Thread nD τ) ∅ (afterwards m c)
      ∗ Pipeline.ownSems0 own c ∗ semVal (cell .barrier c) 0) := by
  rw [inv_last, own_zero, scopedRest0_eq, held_none]
  unfold scratch holds
  iintro ⟨⟨Hb, Ho⟩, Hs, Hp⟩
  isplitl [Hs]; · iexact Hs
  isplitl [Hp]; · iexact Hp
  isplitr; · iempintro
  isplitl [Ho]; · iexact Ho
  iexact Hb

local notation "ℝ𝕊" => Pipeline.RegionSeg (pcfgs (F := F)) adm (pdats m) () defs₀ 𝒱₀ ixs rank

set_option backward.isDefEq.respectTransparency.types false in
/-- The kernel's region: entered with the exchange dealt and the dues owed, left with the barrier's counter at zero and
    nothing owed. -/
def region : ℝ𝕊 0 :=
  Pipeline.RegionSeg.ofTalk (pcfgs (F := F)) adm (pdats m) () defs₀ 𝒱₀ ixs rank 0 own (by decide : Pipeline.OwnSemFacts spec0 own)
    ∅ unstaged (Finset.empty_subset _) kit rfl (fun c => (obligation m c).loose)
    (fun _ => 0) dues (fun c => (zero_add (dues c)).symm) (owed_last m) (fun _ => rfl) (share_full m)
    (before m) (afterwards m) (unstaged_kept m)
    (waiting (sent m)) (fun c => semVal (cell .barrier c) 0) (entered (sent m)) (fun c => semVal (cell .barrier c) 0)
    (fun c => by rw [own_zero]; exact enter (sent m) c) (enters m) (leaves m)
    (fun c => by iintro H; imodintro; iexact H)
    (fun _ => 0) (cut m) (fun _ => iprop(emp)) (arrays_enter m) (arrays_leave m)

end Cert.KernelIdeal.Nll

end
-- ==== Proof.Launch.lean ====
/-
  The launch: the exchange's ghost state made and dealt to the devices, the program as its two segments, and THE RUN of the
  kernel over any float values.
-/
module

public import proofs.«01_k».proof.Proof.Region

@[expose] public section

noncomputable section

namespace Cert.KernelIdeal.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The semaphores in use from the launch on, and those put in use later -/

/-- A kind's semaphore on each device. -/
def each (k : Port) : Dev nD ↪ GSem nD τ sig := ⟨cell k, fun _ _ h => congrArg (fun g : GSem nD τ sig => g.1.1) h⟩

abbrev cells (k : Port) : Finset (GSem nD τ sig) := Finset.univ.map (each k)
abbrev late : Finset (GSem nD τ sig) := cells .depart ∪ cells .arrive

theorem cell_in (k : Port) (c : Dev nD) : cell k c ∈ cells k := Finset.mem_map_of_mem (each k) (Finset.mem_univ c)
theorem cells_apart {k k' : Port} (h : k ≠ k') : Disjoint (cells k) (cells k') := by
  rw [Finset.disjoint_left]
  intro g hg hg'
  obtain ⟨c, -, rfl⟩ := Finset.mem_map.mp hg
  obtain ⟨c', -, e⟩ := Finset.mem_map.mp hg'
  exact h (at_inj (congrArg Prod.snd e).symm)
theorem late_apart : Disjoint (cells .barrier) late :=
  Finset.disjoint_union_right.mpr ⟨cells_apart (by decide), cells_apart (by decide)⟩

theorem cell_known (k : Port) (c : Dev nD) : cell k c ∈ (cells .barrier ∪ late : Finset (GSem nD τ sig)) := by
  cases k
  · exact Finset.mem_union_left _ (cell_in _ c)
  · exact Finset.mem_union_right _ (Finset.mem_union_left _ (cell_in _ c))
  · exact Finset.mem_union_right _ (Finset.mem_union_right _ (cell_in _ c))

/-- A family over a kind's semaphores is a family over the devices. -/
theorem over_cells (k : Port) (Φ : GSem nD τ sig → sProp 𝕄) :
    bigSep (cells k) Φ = bigSep Finset.univ fun c : Dev nD => Φ (cell k c) := bigSep_map (s := Finset.univ) (each k)

/-- Every right to contribute: one to each semaphore, in its round 0. -/
def rightOf : GSem nD τ sig ↪ GSem nD τ sig × ℕ × Unit :=
  ⟨fun g => (g, 0, ()), fun _ _ h => congrArg (fun x : GSem nD τ sig × ℕ × Unit => x.1) h⟩
def allRights : Finset (GSem nD τ sig × ℕ × Unit) := (cells .barrier ∪ late).map rightOf

theorem over_late (Φ : GSem nD τ sig → sProp 𝕄) :
    bigSep late Φ = iprop((bigSep Finset.univ fun c : Dev nD => Φ (cell .depart c)) ∗ bigSep Finset.univ fun c : Dev nD => Φ (cell .arrive c)) := by
  rw [BI.bigSep_union (cells_apart (by decide)), over_cells, over_cells]
  rfl
theorem over_all (Φ : GSem nD τ sig → sProp 𝕄) :
    bigSep (cells .barrier ∪ late) Φ = iprop((bigSep Finset.univ fun c : Dev nD => Φ (cell .barrier c))
      ∗ (bigSep Finset.univ fun c : Dev nD => Φ (cell .depart c)) ∗ bigSep Finset.univ fun c : Dev nD => Φ (cell .arrive c)) := by
  rw [BI.bigSep_union late_apart, over_late, over_cells]
  rfl

/-- A family over the devices may be read at the peers instead. -/
theorem over_peers (Φ : Dev nD → sProp 𝕄) : bigSep Finset.univ Φ = bigSep Finset.univ fun c => Φ (peer c) := bigSep_univ_equiv swap Φ

/-- Two families over the devices, and the one family of pairs. -/
theorem join (Φ Ψ : Dev nD → sProp 𝕄) :
    iprop(bigSep Finset.univ Φ ∗ bigSep Finset.univ Ψ) ⊢ bigSep Finset.univ fun c => iprop(Φ c ∗ Ψ c) := Entails.of_eq (bigSep_sep' _ Φ Ψ).symm
theorem part (Φ Ψ : Dev nD → sProp 𝕄) :
    (bigSep Finset.univ fun c => iprop(Φ c ∗ Ψ c)) ⊢ iprop(bigSep Finset.univ Φ ∗ bigSep Finset.univ Ψ) := Entails.of_eq (bigSep_sep' _ Φ Ψ)

/-- The rights, dealt to the devices that contribute. -/
theorem rights_dealt : bigSep allRights (fun x => (dutyTok EX x.1 x.2.1 x.2.2 : sProp 𝕄)) ⊢ bigSep Finset.univ fun c : Dev nD => rights c := by
  have e : bigSep allRights (fun x => (dutyTok EX x.1 x.2.1 x.2.2 : sProp 𝕄)) = bigSep (cells .barrier ∪ late) fun g => dutyTok EX g 0 () :=
    bigSep_map (s := cells .barrier ∪ late) rightOf
  rw [e, over_all]
  unfold rights
  rw [over_peers fun c => (dutyTok EX (cell .barrier c) 0 () : sProp 𝕄), over_peers fun c => (dutyTok EX (cell .arrive c) 0 () : sProp 𝕄)]
  iintro ⟨Hb, Hd, Ha⟩
  iapply (join (F := F) _ _)
  isplitl [Hb]; · iexact Hb
  iapply (join (F := F) _ _)
  isplitl [Hd] <;> iassumption

/-! ## The launch's credit -/

theorem dues_at (k : Port) (c d : Dev nD) :
    dues d (cell k c) () = (if d = peer c then (match k with | .barrier => 1 | .arrive => N | .depart => 0) else 0) := by
  have hc : d = peer c ↔ c = peer d := ⟨fun h => by rw [h, peer_peer], fun h => by rw [h, peer_peer]⟩
  have hcell (k k' : Port) (c' : Dev nD) : cell k c = cell k' c' ↔ k = k' ∧ c = c' :=
    ⟨fun h => ⟨at_inj (congrArg Prod.snd h), congrArg (fun g : GSem nD τ sig => g.1.1) h⟩, fun h => by rw [h.1, h.2]⟩
  unfold dues
  rw [Pi.add_apply, Finsupp.add_apply, tallyAt_apply, tallyAt_apply]
  simp only [hcell, hc]
  cases k <;> simp

/-- The credit at a kind's semaphore is what the peer owes there. -/
theorem credit_at (k : Port) (c : Dev nD) :
    tallyOn (cell k c) (launchCredit (Pipeline.owing dues) 0 (cell k c))
      = (tallyAt (cell k c) () (match k with | .barrier => 1 | .arrive => N | .depart => 0) : CellTallies nD τ sig Unit) := by
  unfold tallyAt
  refine congrArg _ (Finsupp.ext fun u => ?_)
  cases u
  rw [Pipeline.launchCredit_owing, Finsupp.single_eq_same, Finset.sum_congr rfl fun d _ => dues_at k c d,
    Finset.sum_ite_eq' Finset.univ (peer c), if_pos (Finset.mem_univ _)]

theorem credits_dealt (c : Dev nD) : (Pipeline.launchCred dues c : sProp 𝕄) ⊢ credits c := by
  unfold Pipeline.launchCred credits
  rw [bigSep_univ_at _ Port.barrier.at]
  have hne : Port.arrive.at ≠ Port.barrier.at := fun h => Port.noConfusion (at_inj h)
  have hb := Entails.of_eq (congrArg (fun T => (cred T : sProp 𝕄)) (credit_at .barrier c))
  have ha := Entails.of_eq (congrArg (fun T => (cred T : sProp 𝕄)) (credit_at .arrive c))
  have hr : (bigSep (Finset.univ.erase Port.barrier.at) fun s : SemLoc sig =>
        (cred (tallyOn ((c : Thread nD τ), s) (launchCredit (Pipeline.owing dues) 0 ((c : Thread nD τ), s))) : sProp 𝕄))
      ⊢ cred (tallyOn ((c : Thread nD τ), Port.arrive.at) (launchCredit (Pipeline.owing dues) 0 ((c : Thread nD τ), Port.arrive.at))) :=
    bigSep_elim (Finset.mem_erase.mpr (And.intro hne (Finset.mem_univ Port.arrive.at)))
  iintro ⟨Hb, Hrest⟩
  isplitl [Hb]
  · iapply hb; iexact Hb
  iapply ha
  iapply hr $$ Hrest

/-! ## What each device starts with -/

variable (m : (ℓ : Loc nD τ sig) → Buf (Elt F) ℓ) (ρ : Dev nD → PrngReg)

/-- The device's memory as launched. -/
abbrev launched (c : Dev nD) : Valuation τ sig (Elt F) := fun b => m (c, b)

/-- What rides along with the host operations. -/
def carried (c : Dev nD) : sProp 𝕄 :=
  iprop((waiting (sent m) c ∗ ∃ r, prngReg c r) ∗ ∃ W, owes (c : Thread nD τ) (dues c) W)

/-- What every device may consult. -/
def records (κ : GSem nD τ sig → ℕ) : sProp 𝕄 :=
  iprop((bigSep (cells .barrier ∪ late) fun g => cellInv EX (plan (sent m)) (κ g) g) ∗ bigSep (cells .barrier) fun g => reached EX g 0)

instance records_persistent (κ : GSem nD τ sig → ℕ) : BI.Persistent (records m κ) := by unfold records; infer_instance

theorem recorded (κ : GSem nD τ sig → ℕ) (k : Port) (c : Dev nD) :
    (bigSep (cells .barrier ∪ late) fun g => (cellInv EX (plan (sent m)) (κ g) g : sProp 𝕄))
      ⊢ cellInv EX (plan (sent m)) (κ (cell k c)) (cell k c) := bigSep_elim (cell_known k c)
theorem begun (c : Dev nD) : (bigSep (cells .barrier) fun g => (reached EX g 0 : sProp 𝕄)) ⊢ reached EX (cell .barrier c) 0 :=
  bigSep_elim (cell_in .barrier c)

/-- The ghost state that is device `c`'s alone, and its other holdings. -/
def mine (c : Dev nD) : sProp 𝕄 :=
  iprop(atPos EX (cell .barrier c) 0 ∅ 0 ∗ (openTok EX (cell .depart c) ∗ openTok EX (cell .arrive c)) ∗ rights c)
def holdings (c : Dev nD) : sProp 𝕄 :=
  iprop(StableHlo.held (c : Thread nD τ) bufs (launched m c) ∗ credits c ∗ owes (c : Thread nD τ) (dues c) ∅ ∗ ∃ r, prngReg c r)

abbrev first (c : Dev nD) : sProp 𝕄 := iprop(StableHlo.held (c : Thread nD τ) bufs (launched m c) ∗ carried m c)
abbrev final (c : Dev nD) : sProp 𝕄 := iprop(StableHlo.held (c : Thread nD τ) bufs (afterwards m c) ∗ semVal (cell .barrier c) 0)

theorem first_intro (κ : GSem nD τ sig → ℕ) (c : Dev nD) : iprop(records m κ ∗ (mine c ∗ holdings m c)) ⊢ first m c := by
  unfold records mine holdings first carried waiting known
  iintro ⟨⟨#HI, #HR⟩, ⟨Pb, ⟨Od, Oa⟩, T⟩, Hh, C, HO, Hp⟩
  isplitl [Hh]; · iexact Hh
  isplitr [HO]
  · isplitr [Hp]
    · isplitr [C]
      · iexists κ
        isplitr
        · isplitr; · iapply (recorded m κ .barrier c); iexact HI
          isplitr; · iapply (recorded m κ .depart c); iexact HI
          isplitr; · iapply (recorded m κ .arrive c); iexact HI
          isplitr; · iapply (recorded m κ .barrier (peer c)); iexact HI
          isplitr; · iapply (recorded m κ .arrive (peer c)); iexact HI
          iapply (begun (F := F) (peer c)); iexact HR
        isplitl [Pb]; · iexact Pb
        isplitl [Od]; · iexact Od
        isplitl [Oa] <;> iassumption
      iexact C
    iexact Hp
  iexists ∅
  iexact HO

/-- The launch element: the pipeline's part, and the exchange's. -/
def seed : UR sig nD τ := launchOf (cells .barrier) late allRights
def u₀ : UU :=
  (initOf (Pipeline.cells (Pipeline.pin (pcfgs (F := F)) adm) cellOf_inj)
    (Pipeline.launchToks (Pipeline.pin (pcfgs (F := F)) adm) cellOf_inj), seed)

/-- The exchange's part is handed out whole, on device 0. -/
def parked (c : Dev nD) : sProp 𝕄 := if c = 0 then BI.own (EX seed) else iprop(emp)
theorem parked_all : bigSep Finset.univ (parked (F := F)) = BI.own (EX seed) := by
  rw [bigSep_univ_at _ (0 : Dev nD), bigSep_congr (s := Finset.univ.erase (0 : Dev nD)) (Ψ := fun _ => (BI.emp : sProp 𝕄))
    (fun c hc => show parked c = _ from if_neg (Finset.ne_of_mem_erase hc)), BI.bigSep_emp_const, show parked (F := F) 0 = BI.own (EX seed) from if_pos rfl]
  exact BI.equiv_iff.mp sep_emp

theorem barrier_counter (c : Dev nD) : (unscopedSems0 c : sProp 𝕄) = semVal (cell .barrier c) 0 := by
  unfold unscopedSems0
  rw [show (Finset.univ.filter fun s : SemLoc sig => ¬ s.isScoped .tc) = {Port.barrier.at} from by decide, BI.bigSep_singleton]

/-- One device's share of the launch. -/
theorem share_of (c : Dev nD) :
    iprop(unscopedBufs c (fun b => m ((c : Thread nD τ).loc b)) ∗ unscopedSems0 c ∗ owes (c : Thread nD τ) (dues c) ∅
        ∗ Pipeline.launchCred dues c ∗ prngReg c (ρ c) ∗ parked c)
      ⊢ (iprop(holdings m c ∗ (semVal (cell .barrier c) 0 ∗ parked c)) : sProp 𝕄) := by
  rw [show unscopedBufs c (fun b => m ((c : Thread nD τ).loc b)) = StableHlo.held (c : Thread nD τ) bufs (launched m c) from
      Pipeline.unscopedBufs_held c (launched m c), barrier_counter]
  unfold holdings
  iintro ⟨Hh, Hb, HO, Hc, Hp, HG⟩
  ihave C := (credits_dealt (F := F) c) $$ Hc
  isplitr [Hb HG]
  · isplitl [Hh]; · iexact Hh
    isplitl [C]; · iexact C
    isplitl [HO]; · iexact HO
    iexists (ρ c); iexact Hp
  isplitl [Hb] <;> iassumption

/-- The launch deals every device what it starts with. -/
theorem dealt :
    iprop((bigSep Finset.univ fun c : Dev nD => iprop(unscopedBufs c (fun b => m ((c : Thread nD τ).loc b)) ∗ unscopedSems0 c
          ∗ owes (c : Thread nD τ) (dues c) ∅ ∗ Pipeline.launchCred dues c ∗ prngReg c (ρ c) ∗ parked c)) ∗ levAts ixs rank)
      ⊢ (|={Set.univ}=> bigSep Finset.univ (first m) : sProp 𝕄) := by
  have hv := Entails.of_eq (over_cells (F := F) .barrier fun g => semVal g 0).symm
  have hp := Entails.of_eq (over_cells (F := F) .barrier fun g => atPos EX g 0 ∅ 0)
  have ho : bigSep late (fun g => (openTok EX g : sProp 𝕄))
      ⊢ bigSep Finset.univ fun c : Dev nD => iprop(openTok EX (cell .depart c) ∗ openTok EX (cell .arrive c)) :=
    (Entails.of_eq (over_late _)).trans (join _ _)
  refine (sep_mono_left ((bigSep_mono fun c _ => share_of m ρ c).trans (part _ _))).trans ?_
  iintro ⟨⟨HH, HX⟩, -⟩
  ihave HX' := (part (F := F) _ _) $$ HX
  icases HX' with ⟨Hv, HG⟩
  ihave Hs := (Entails.of_eq (parked_all (F := F))) $$ HG
  imod (Rounds.fund_launch EX (plan (sent m)) late_apart (fun g _ => plan_counts (sent m) g) allRights) $$ [Hv Hs]
    with ⟨%κ, -, #HI, #HR, Hat, Hop, Htok⟩
  · isplitl [Hv]
    · iapply hv $$ Hv
    · iexact Hs
  imodintro
  iapply (bigSep_with_persistent (R := records m κ) (Φ := fun c => iprop(mine c ∗ holdings m c)) fun c _ => first_intro m κ c)
  isplitr
  · unfold records
    isplitr; · iexact HI
    iexact HR
  iapply (join (F := F) _ _)
  isplitr [HH]
  · unfold mine
    iapply (join (F := F) _ _)
    isplitl [Hat]; · iapply hp $$ Hat
    iapply (join (F := F) _ _)
    isplitl [Hop]; · iapply ho $$ Hop
    iapply (rights_dealt (F := F)) $$ Htok
  iexact HH

/-! ## The program's two segments -/

/-- The host operations: the logits are made, everything of the exchange riding along. -/
def host : Pipeline.HostSeg (Name := ℕ) (U := UU) (pcfgs (F := F)) defs₀ 𝒱₀ ixs rank :=
  Pipeline.HostSeg.ofOps _ _ _ _ _ bufs hostOps0 (fun op h => Pipeline.sub_ucRefs op (List.forall_iff_forall_mem.mp hostOps0_sub op h))
    (List.forall_iff_forall_mem.mp hostOps0_fresh) (launched m) (carried m)

def segs : List (Pipeline.Seg (pcfgs (F := F)) adm (pdats m) () defs₀ 𝒱₀ ixs rank) := [.host (host m), .region (region m)]

/-- The device's buffers: the windows' arrays, and the rest. -/
theorem bufs_split (c : Dev nD) (W : Valuation τ sig (Elt F)) :
    (StableHlo.held (c.tc : Thread nD τ) bufs W : sProp 𝕄)
      = iprop(StableHlo.held (c.tc : Thread nD τ) (Pipeline.arrRefs (τ := τ) (pcfgs (F := F) 0).spec) W
        ∗ StableHlo.held (c.tc : Thread nD τ) (unstaged (F := F)) W) :=
  StableHlo.held_sub_split (c.tc : Thread nD τ) (Pipeline.arrRefs_sub_ucRefs spec0 (by decide)) W

theorem into_region (c : Dev nD) : iprop(StableHlo.held (c : Thread nD τ) bufs (before m c) ∗ carried m c) ⊢ (region m).pre c := by
  show _ ⊢ iprop(StableHlo.held (c.tc : Thread nD τ) (Pipeline.arrRefs (τ := τ) (pcfgs (F := F) 0).spec) (before m c) ∗ (∃ r, prngReg c r)
    ∗ (StableHlo.held (c.tc : Thread nD τ) unstaged (before m c) ∗ emp) ∗ waiting (sent m) c ∗ ∃ Wd, owes (c : Thread nD τ) (0 + dues c) Wd)
  rw [bufs_split, zero_add]
  unfold carried
  iintro ⟨⟨Ha, Hr⟩, ⟨Hw, Hp⟩, HO⟩
  isplitl [Ha]; · iexact Ha
  isplitl [Hp]; · iexact Hp
  isplitl [Hr]
  · isplitl [Hr]; · iexact Hr
    iempintro
  isplitl [Hw] <;> iassumption

theorem out_of_region (c : Dev nD) :
    (region m).post c ⊢ iprop(final m c ∗ ∃ W, owes (c : Thread nD τ) (0 : CellTallies nD τ sig Unit) W) := by
  show iprop(StableHlo.held (c.tc : Thread nD τ) (Pipeline.arrRefs (τ := τ) (pcfgs (F := F) 0).spec) (afterwards m c) ∗ (∃ r, prngReg c r)
    ∗ (StableHlo.held (c.tc : Thread nD τ) unstaged (afterwards m c) ∗ emp) ∗ semVal (cell .barrier c) 0
    ∗ ∃ Wd, owes (c : Thread nD τ) (0 : CellTallies nD τ sig Unit) Wd) ⊢ _
  unfold final
  rw [bufs_split]
  iintro ⟨Ha, -, ⟨Hr, -⟩, Hb, HO⟩
  isplitr [HO]
  · isplitr [Hb]
    · isplitl [Ha] <;> iassumption
    iexact Hb
  iexact HO

theorem one_counter : ∀ s : SemLoc sig, s.isScoped .tc = false → s = Port.barrier.at := by decide

/-- An unscoped buffer is among the device's buffers. -/
theorem in_bufs {b : Ref sig .tc} (h : b.isScoped = false) : Proc.devRef (τ := τ) .tc b ∈ bufs :=
  Finset.mem_filter.mpr ⟨Finset.mem_map.mpr ⟨b, Finset.mem_univ b, rfl⟩, by simpa using h⟩

/-- The memory holds what the device's buffers are held at. -/
theorem bufs_read (c : Dev nD) (s' : Phys nD τ sig (Elt F)) :
    iprop(StableHlo.held (c : Thread nD τ) bufs (afterwards m c) ∗ SI s')
      ⊢ (iprop(⌜∀ b ∈ bufs, s'.mem.mem (c, b) = afterwards m c b⌝ ∗ SI s') : sProp 𝕄) :=
  pointsTo_read_all bufs (fun b => ((c, b) : Loc nD τ sig)) (afterwards m c) s'

set_option backward.isDefEq.respectTransparency.types false in
/-- THE RUN: from any memory with zero counters every execution on the four devices ends, with each device's result computed
    from its own logits and its peer's, its arguments unchanged, and every counter back at zero. -/
theorem run_main : θ_run defs (onTc (τ := τ) (main (F := F))) (s₀ m ρ)
    (fun r => (∀ c : Dev nD, r.2.mem ((c : Thread nD τ).loc main_v2) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ ixs rank m ρ main (segs m)
    (fun c Q => by rw [Gen.main_segs adm (pdats m) () 𝒱₀ ixs rank (host m) (region m) rfl c]; exact BI.Entails.refl _)
    (by simp only [segs, Pipeline.Seg.pipes_host, Pipeline.Seg.pipes_region, Pipeline.Seg.pipes_nil]; decide)
    (O₀ := dues) (hL := ixs_off) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := first m) (Tₙ := final m)
    (hch := ⟨fun _ => .rfl, into_region m, out_of_region m⟩)
    (hinit := dealt m ρ)
    (QY := fun c s => (∀ b : Ref sig .tc, b.isScoped = false → s.mem ((c : Thread nD τ).loc b) = afterwards m c (Proc.devRef .tc b))
      ∧ s.sem (cell .barrier c) = 0)
    (hfin := fun c s' => by
      iintro ⟨⟨Hh, Hb⟩, HSI⟩
      icombine HSI Hb gives %hb
      ihave H := (bufs_read m c s') $$ [Hh HSI]
      · isplitl [Hh] <;> iassumption
      icases H with ⟨%hm, HSI⟩
      imodintro
      isplitr
      · ipureintro
        exact ⟨fun b h => hm _ (in_bufs h), by simpa using hb⟩
      iexact HSI)
    (hQ := fun s h hs => ⟨fun c => by
        have hb := (h c).1
        refine ⟨?_, ?_, ?_, ?_⟩
        · exact (hb main_v2 (by decide)).trans (Function.update_self (Proc.devRef (τ := τ) .tc main_v2) (result m c) (before m c))
        · exact ((hb main_arg0 (by decide)).trans (afterwards_of_ne m c (StableHlo.devRef_ne_of_ne (by decide)))).trans (V_main_arg0 m c)
        · exact ((hb main_arg1 (by decide)).trans (afterwards_of_ne m c (StableHlo.devRef_ne_of_ne (by decide)))).trans (V_main_arg1 m c)
        · exact ((hb main_arg2 (by decide)).trans (afterwards_of_ne m c (StableHlo.devRef_ne_of_ne (by decide)))).trans (V_main_arg2 m c),
      sem_eq_zero hs fun c sm hsm => by
        obtain rfl := one_counter sm hsm
        exact (h c).2⟩)

end Cert.KernelIdeal.Nll

end
-- ==== Proof.LogSum.lean ====
/-
  The mathematics of one row, apart from any program: over the extended reals, with every logit a real number. The
  logarithm of a sum of exponentials may be taken after any real number is subtracted from the logits and added back;
  a sum over the whole vocabulary is the sum over its two halves; and a sum that keeps only the label's column is the
  label's logit.
-/
module

public import Idealize.ShloMosaic.PureOps.Ideal
public import Mathlib.Algebra.BigOperators.Fin
public import Mathlib.Analysis.SpecialFunctions.Log.Basic

@[expose] public section

noncomputable section

namespace Cert.Row

open Idealize.ShloMosaic
open scoped BigOperators

/-- A finite sum of real numbers is the same number whether it is taken over the reals or over the extended reals. -/
theorem sum_real {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- The greatest of a list of real numbers, started from minus infinity, is a real number unless the list is empty. -/
theorem greatest_real_or {ι : Type} (s : Finset ι) (f : ι → ℝ) :
    s = ∅ ∨ ∃ M : ℝ, s.fold max (⊥ : EReal) (fun i => ((f i : ℝ) : EReal)) = M := by
  induction s using Finset.cons_induction with
  | empty => exact .inl rfl
  | cons a s ha ih =>
    refine .inr ?_
    rw [Finset.fold_cons]
    rcases ih with rfl | ⟨M, hM⟩
    · exact ⟨f a, by rw [Finset.fold_empty]; exact max_eq_left bot_le⟩
    · exact ⟨max (f a) M, by rw [hM]; exact (EReal.coe_strictMono.monotone.map_max).symm⟩

/-- A row's greatest logit is a real number. -/
theorem greatest_real {n : ℕ} (hn : 0 < n) (w : Fin n → ℝ) :
    ∃ M : ℝ, (Finset.univ : Finset (Fin n)).fold max (⊥ : EReal) (fun i => ((w i : ℝ) : EReal)) = M :=
  (greatest_real_or Finset.univ w).resolve_left (Finset.ne_empty_of_mem (Finset.mem_univ ⟨0, hn⟩))

/-- A sum of exponentials of real numbers is the real sum. -/
theorem sum_exp {n : ℕ} (w : Fin n → ℝ) : ∑ k, Ideal.exp ((w k : ℝ) : EReal) = ((∑ k, Real.exp (w k) : ℝ) : EReal) :=
  (Finset.sum_congr rfl fun _ _ => Ideal.exp_coe _).trans (sum_real _ _)

/-- The logarithm of the sum of the exponentials of real numbers, taken with `M` subtracted first and added back, is
    the logarithm of the plain sum. -/
theorem log_sum_shifted {n : ℕ} (hn : 0 < n) (w : Fin n → ℝ) (M : ℝ) :
    (M : EReal) + Ideal.log (0 + ∑ k, Ideal.exp (((w k : ℝ) : EReal) - M)) = Ideal.log (∑ k, Ideal.exp ((w k : ℝ) : EReal)) := by
  have hpos : ∀ v : Fin n → ℝ, 0 < ∑ k, Real.exp (v k) := fun v =>
    Finset.sum_pos (fun k _ => Real.exp_pos _) ⟨⟨0, hn⟩, Finset.mem_univ _⟩
  have hs : ∑ k, Ideal.exp (((w k : ℝ) : EReal) - M) = ((∑ k, Real.exp (w k - M) : ℝ) : EReal) :=
    (Finset.sum_congr rfl fun k _ => congrArg Ideal.exp (EReal.coe_sub (w k) M).symm).trans (sum_exp fun k => w k - M)
  rw [zero_add, hs, sum_exp, Ideal.log_coe, Ideal.log_coe, if_neg (not_le.2 (hpos _)), if_neg (not_le.2 (hpos _)), ← EReal.coe_add]
  refine congrArg _ ?_
  have hm : ∑ k, Real.exp (w k - M) = (∑ k, Real.exp (w k)) * Real.exp (-M) := by
    rw [Finset.sum_mul]
    exact Finset.sum_congr rfl fun k _ => by rw [← Real.exp_add, sub_eq_add_neg]
  rw [hm, Real.log_mul (hpos w).ne' (Real.exp_pos _).ne', Real.log_exp]
  ring

/-- Column `j` of half `h` of the vocabulary, as a column of the whole. -/
def column (h : Fin 2) (j : Fin 4096) : Fin 8192 := ⟨h.val * 4096 + j.val, by have := h.isLt; have := j.isLt; omega⟩

/-- The other half. -/
def other (h : Fin 2) : Fin 2 := ⟨1 - h.val, by omega⟩

/-- The sums over the two halves, in either order, add up to the sum over the whole vocabulary. -/
theorem sum_halves (f : Fin 8192 → EReal) (h : Fin 2) :
    ∑ j, f (column h j) + ∑ j, f (column (other h) j) = ∑ k, f k := by
  have e : ∑ k, f k = ∑ j, f (column 0 j) + ∑ j, f (column 1 j) := by
    refine (Fin.sum_univ_add (a := 4096) (b := 4096) f).trans (congrArg₂ (· + ·) ?_ ?_)
    · exact Finset.sum_congr rfl fun j _ => congrArg f (Fin.ext (by show j.val = 0 * 4096 + j.val; omega))
    · exact Finset.sum_congr rfl fun j _ => congrArg f (Fin.ext (by show 4096 + j.val = 1 * 4096 + j.val; omega))
  rw [e]
  match h with
  | 0 => rfl
  | 1 => exact add_comm _ _

/-- A sum over the vocabulary that keeps only the label's column is the logit there. -/
theorem sum_label (f : Fin 8192 → EReal) (l : Fin 8192) : ∑ k, (if k = l then f k else 0) = f l := by
  rw [Finset.sum_ite_eq' Finset.univ l f, if_pos (Finset.mem_univ _)]

/-- One row's loss as the two devices compute it — the logarithm of the two halves' sums of exponentials less the two
    halves' label sums — is the loss as the whole row gives it: with any real `M` taken out before the exponentials. -/
theorem loss_eq (w : Fin 8192 → ℝ) (l : Fin 8192) (h : Fin 2) (M : ℝ) :
    Ideal.log (∑ j, Ideal.exp ((w (column h j) : ℝ) : EReal) + ∑ j, Ideal.exp ((w (column (other h) j) : ℝ) : EReal))
        - (∑ j, (if column h j = l then ((w (column h j) : ℝ) : EReal) else 0)
          + ∑ j, (if column (other h) j = l then ((w (column (other h) j) : ℝ) : EReal) else 0))
      = ((M : EReal) + Ideal.log (0 + ∑ k, Ideal.exp (((w k : ℝ) : EReal) - M))) - ((w l : ℝ) : EReal) := by
  rw [sum_halves (fun k => Ideal.exp ((w k : ℝ) : EReal)) h, sum_halves (fun k => if k = l then ((w k : ℝ) : EReal) else 0) h,
    sum_label (fun k => ((w k : ℝ) : EReal)) l, log_sum_shifted (by decide) w M]

/-- Word arithmetic of the label test: column `j` of half `h` carries the label `l` exactly when the word `j` is the
    word `l` less the half's first column. -/
theorem word_label (h : Fin 2) (j : Fin 4096) (v : BitVec 32) (l : Fin 8192) (hv : v.toNat = l.val) :
    BitVec.ofNat 32 j.val = v - BitVec.ofNat 32 (h.val * 4096) ↔ column h j = l := by
  have hh := h.isLt; have hj := j.isLt; have hl := l.isLt
  rw [← BitVec.toNat_inj, Fin.ext_iff, BitVec.toNat_sub, BitVec.toNat_ofNat, BitVec.toNat_ofNat, hv]
  show _ ↔ h.val * 4096 + j.val = l.val
  omega

end Cert.Row

end
-- ==== Proof.KernelValue.lean ====
/-
  The kernel's result over exact values, read at a row: the logarithm of the two devices' sums of exponentials, less the
  sum of the two devices' label sums.
-/
module

public import proofs.«01_k».proof.Proof.Region
public import proofs.«01_k».proof.Proof.LogSum
public import Idealize.ShloMosaic.Lib.ValueIdx
public import Idealize.ShloMosaic.Lib.StableHlo.Predicate
public import Idealize.ShloMosaic.PureOps.Ideal.Laws
public import Idealize.ShloMosaic.Lib.Pointwise.Reshape

@[expose] public section

noncomputable section

namespace Cert.KernelIdeal.Nll

open Idealize.ShloMosaic hiding ix1 ix2
open Idealize.ShloMosaic.TcCoe Idealize.ShloMosaic.ValueIdx
open Cert.KernelIdeal.Gen Cert.Row
open scoped BigOperators

/-- Which half of the vocabulary a device holds. -/
def halfOf (c : Dev nD) : Fin 2 := ⟨c.val / 2, by have h : c.val < 4 := c.isLt; omega⟩
/-- The peer holds the other half. -/
theorem halfOf_peer (c : Dev nD) : halfOf (peer c) = other (halfOf c) := by revert c; decide

/-- The first column of a device's half, as the kernel computes it from the device's number. -/
theorem first_column (c : Dev nD) :
    Scalar.muli (Scalar.remsi (Scalar.divsi (Dev.word c) 2#32) 2#32) 4096#32 = BitVec.ofNat 32 ((halfOf c).val * 4096) := by
  revert c; decide

/-- A column of length 256 viewed as a 256 by 1 array, and back. -/
theorem cast_column {α : Type} (x : S256.Idx → α) (r : Fin 256) (j : Fin 1) :
    shapeCast S256x1 x shapeCasts_S256_S256x1 (ix2 r j) = x (ix1 r) :=
  shapeCast_apply x _ _ _ (by
    rw [Shape.rowMajor_val_two, Shape.rowMajor_val_one]
    show r.val = r.val * 1 + j.val; have := j.isLt; omega)
theorem cast_vector {α : Type} (x : S256x1.Idx → α) (r : Fin 256) :
    shapeCast S256 x shapeCasts_S256x1_S256 (ix1 r) = x (ix2 r 0) :=
  shapeCast_apply x _ _ _ (by
    rw [Shape.rowMajor_val_two, Shape.rowMajor_val_one]
    show r.val * 1 + 0 = r.val; omega)

/-- A row sum read at the row. -/
theorem row_sum (x : FVec Ideal S256x4096 .f32) (r : Fin 256) :
    multiReduction .add [1] S256 x 0x00000000#32 reduces_S256x4096_S256 (.inl rfl) rfl (ix1 r) = ∑ j : Fin 4096, x (ix2 r j) := by
  refine (Ideal.multiReduction_add_single x _ _ _ _ _).trans (Finset.sum_congr rfl fun j _ => congrArg x ?_)
  exact funext fun a => Fin.ext (by match a with | ⟨0, _⟩ => rfl | ⟨1, _⟩ => rfl)

/-- A device's sum of exponentials, at a row. -/
theorem expSum_apply (x : FVec Ideal S256x4096 .f32) (r : Fin 256) :
    k0_pay4 (F := Ideal) x (ix2 r 0) = ∑ j : Fin 4096, Ideal.exp (x (ix2 r j)) := by
  unfold k0_pay4 k0_pay3
  refine (cast_column _ r 0).trans ((row_sum _ r).trans (Finset.sum_congr rfl fun j _ => ?_))
  rw [shapeCast_id]
  rfl

/-- A device's label sum, at a row whose label is `l`. -/
theorem labelSum_apply (c : Dev nD) (x : FVec Ideal S256x4096 .f32) (y : IVec S256 32) (r : Fin 256) (l : Fin 8192)
    (hl : (y (ix1 r)).toNat = l.val) :
    k0_pay5 (F := Ideal) c x y (ix2 r 0) = ∑ j : Fin 4096, if column (halfOf c) j = l then x (ix2 r j) else 0 := by
  unfold k0_pay5 k0_pay3
  refine (cast_column _ r 0).trans ((row_sum _ r).trans (Finset.sum_congr rfl fun j _ => ?_))
  rw [shapeCast_id, shapeCast_id, select_apply]
  have hb : broadcastTo S256x4096 (subi (shapeCast S256x1 y shapeCasts_S256_S256x1)
        (broadcast S256x1 (Scalar.muli (Scalar.remsi (Scalar.divsi (Dev.word c) 2#32) 2#32) 4096#32))) broadcasts_S256x1_S256x4096 (ix2 r j)
      = y (ix1 r) - BitVec.ofNat 32 ((halfOf c).val * 4096) := by
    refine (broadcastTo_apply _ _ _ (ix2 r 0) (fun a => by match a with | ⟨0, _⟩ => rfl | ⟨1, _⟩ => rfl)).trans ?_
    rw [first_column]
    exact congrArg (· - BitVec.ofNat 32 ((halfOf c).val * 4096)) (cast_column y r 0)
  have ht : cmpi .eq (iota .tc S256x4096 32 [1] iota_S256x4096_d1_w32) (broadcastTo S256x4096 (subi (shapeCast S256x1 y shapeCasts_S256_S256x1)
        (broadcast S256x1 (Scalar.muli (Scalar.remsi (Scalar.divsi (Dev.word c) 2#32) 2#32) 4096#32))) broadcasts_S256x1_S256x4096) (ix2 r j) = 1#1
      ↔ column (halfOf c) j = l := by
    refine Iff.trans ?_ (word_label (halfOf c) j (y (ix1 r)) l hl)
    show IntOp.cmpi .eq (iota .tc S256x4096 32 [1] iota_S256x4096_d1_w32 (ix2 r j)) _ = 1#1 ↔ _
    rw [hb, iota_single_apply, StableHlo.Predicate.cmpi_eq_iff]
  by_cases h : column (halfOf c) j = l
  · rw [if_pos h, ht.2 h, select_one]
  · rw [if_neg h, eq_zero_of_ne_one (fun h' => h (ht.1 h')), select_zero]
    exact Ideal.ofBits_zero_f32

/-- What a device writes, at a row whose label (on both devices) is `l`: the logarithm of the two sums of exponentials,
    less the two label sums. -/
theorem writesOut_apply (c : Dev nD) (x x' : FVec Ideal S256x4096 .f32) (y y' : IVec S256 32) (r : Fin 256) (l : Fin 8192)
    (hl : (y (ix1 r)).toNat = l.val) (hl' : (y' (ix1 r)).toNat = l.val) :
    writesOut c x y x' y' (ix1 r)
      = Ideal.log (∑ j : Fin 4096, Ideal.exp (x (ix2 r j)) + ∑ j : Fin 4096, Ideal.exp (x' (ix2 r j)))
        - (∑ j : Fin 4096, (if column (halfOf c) j = l then x (ix2 r j) else 0)
          + ∑ j : Fin 4096, if column (other (halfOf c)) j = l then x' (ix2 r j) else 0) := by
  unfold writesOut k0_pay2 k0_pay6 k0_pay7
  refine (cast_vector _ r).trans ?_
  rw [shapeCast_id, shapeCast_id, ← halfOf_peer, ← expSum_apply, ← expSum_apply, ← labelSum_apply c x y r l hl,
    ← labelSum_apply (peer c) x' y' r l hl']
  rfl

end Cert.KernelIdeal.Nll

end
-- ==== Proof.RefValue.lean ====
/-
  The reference's result over exact values, read at a row whose logits are real numbers and whose label is a column of the
  vocabulary: the row's greatest logit, plus the logarithm of the sum of the exponentials of the logits less it, less the
  logit at the label.
-/
module

public import proofs.«01_k».proof.Proof.Gen.ReferenceIdeal.Read
public import proofs.«01_k».proof.Proof.LogSum
public import Idealize.ShloMosaic.Lib.ValueIdx
public import Idealize.ShloMosaic.Lib.StableHlo.Predicate
public import Idealize.ShloMosaic.PureOps.Ideal.Laws

@[expose] public section

noncomputable section

namespace Cert.ReferenceIdeal.Nll

open Idealize.ShloMosaic Idealize.ShloMosaic.TcCoe
open Idealize.ShloMosaic.ValueIdx
open Cert.ReferenceIdeal Cert.ReferenceIdeal.Gen Cert.ReferenceIdeal.Read
open scoped BigOperators

/-! ## The label's column -/

/-- A row number below 256 is not negative as a signed word, so the reference's wrap of negative row numbers leaves it. -/
theorem row_number (r : Fin 256) : val_main_v18 (F := Ideal) (ix1 r) = BitVec.ofNat 32 r.val := by
  have hr := r.isLt
  have h : ¬val_main_v15 (F := Ideal) (ix1 r) = 1#1 := by
    rw [val_main_v15_apply, val_main_v13_apply, val_main_v14_apply, val_main_c_apply]
    show ¬IntOp.cmpi .slt (BitVec.ofNat 32 r.val) 0#32 = 1#1
    rw [StableHlo.Predicate.slt_iff_toNat (by rw [BitVec.toNat_ofNat]; omega) (by decide)]
    exact Nat.not_lt_zero _
  rw [val_main_v18_apply, eq_zero_of_ne_one h, select_zero, val_main_v13_apply]

/-- A label below 8192 is not negative either, and is left alone. -/
theorem label_kept (x2 : IVec S256 32) (r : Fin 256) (l : Fin 8192) (hl : (x2 (ix1 r)).toNat = l.val) :
    val_main_v23 (F := Ideal) x2 (ix1 r) = x2 (ix1 r) := by
  have hl' := l.isLt
  have h : ¬val_main_v20 (F := Ideal) x2 (ix1 r) = 1#1 := by
    rw [val_main_v20_apply, val_main_v19_apply, val_main_c_2_apply,
      StableHlo.Predicate.slt_iff_toNat (by omega) (by decide)]
    exact Nat.not_lt_zero _
  rw [val_main_v23_apply, eq_zero_of_ne_one h, select_zero]

/-- The pair of start indices of a row: the row's number, -/
theorem start_row (x2 : IVec S256 32) (r : Fin 256) : val_main_v26 (F := Ideal) x2 (ix2 r 0) = BitVec.ofNat 32 r.val := by
  unfold val_main_v26
  refine (concatenate_pair_apply_left (t := S256x2) (s₁ := S256x1) (s₂ := S256x1) 1 (val_main_v24 (F := Ideal)) (val_main_v25 (F := Ideal) x2)
    concatenates_S256x1_S256x1_S256x2_d1 (ix2 r (0 : Fin 2)) rfl (ix2 r (0 : Fin 1))
    (fun b => by match b with | ⟨0, _⟩ => rfl | ⟨1, _⟩ => rfl)).trans ?_
  rw [val_main_v24_apply]
  exact (congrArg _ (eq_ix1 _)).trans (row_number r)

/-- and its label. -/
theorem start_label (x2 : IVec S256 32) (r : Fin 256) (l : Fin 8192) (hl : (x2 (ix1 r)).toNat = l.val) :
    val_main_v26 (F := Ideal) x2 (ix2 r 1) = x2 (ix1 r) := by
  unfold val_main_v26
  refine (concatenate_pair_apply_right (t := S256x2) (s₁ := S256x1) (s₂ := S256x1) 1 (val_main_v24 (F := Ideal)) (val_main_v25 (F := Ideal) x2)
    concatenates_S256x1_S256x1_S256x2_d1 (ix2 r (1 : Fin 2)) rfl rfl (ix2 r (0 : Fin 1))
    (fun b hb => by match b with | ⟨0, _⟩ => rfl | ⟨1, _⟩ => exact absurd rfl hb) rfl).trans ?_
  rw [val_main_v25_apply]
  exact (congrArg _ (eq_ix1 _)).trans (label_kept x2 r l hl)

/-- The gather of one element per row reads, at a row, the operand at the two start indices of the row, each read signed
    and clamped into its axis. -/
theorem gather_apply (z : S256x8192.Idx → EReal) (idx : IVec S256x2 32) (r : Fin 256) (k : Fin 8192)
    (h0 : (idx (ix2 r 0)).toInt.toNat = r.val) (h1 : (idx (ix2 r 1)).toInt.toNat = k.val) :
    Host.gather gather_S256x8192_S256x2_S256_n_01_n_n_01_1_11 z idx (ix1 r) = z (ix2 r k) := by
  unfold Host.gather
  refine congrArg z (funext fun a => Fin.ext ?_)
  show gather_S256x8192_S256x2_S256_n_01_n_n_01_1_11.start (ix1 r) idx a
    + gather_S256x8192_S256x2_S256_n_01_n_n_01_1_11.batchCoord (ix1 r) a
    + gather_S256x8192_S256x2_S256_n_01_n_n_01_1_11.offCoord (ix1 r) a = _
  rw [GatherDims.batchCoord_eq_zero _ _ _ List.not_mem_nil,
    GatherDims.offCoord_eq_zero _ _ _ (fun h => ((GatherDims.mem_sKept _ _).mp h).1 (by
      match a with | ⟨0, _⟩ => exact List.mem_cons_self | ⟨1, _⟩ => exact List.mem_cons_of_mem _ List.mem_cons_self))]
  unfold GatherDims.start
  match a with
  | ⟨0, _⟩ =>
    rw [dif_pos (show (⟨0, by decide⟩ : Fin S256x8192.rank) ∈ gather_S256x8192_S256x2_S256_n_01_n_n_01_1_11.startIndexMap from List.mem_cons_self)]
    refine Eq.trans (b := min (idx (ix2 r 0)).toInt.toNat 255) ?_ (by rw [h0]; show min r.val 255 = r.val; have := r.isLt; omega)
    refine congrArg (fun i => min (idx i).toInt.toNat 255) (funext fun b => Fin.ext ?_)
    match b with | ⟨0, _⟩ => rfl | ⟨1, _⟩ => rfl
  | ⟨1, _⟩ =>
    rw [dif_pos (show (⟨1, by decide⟩ : Fin S256x8192.rank) ∈ gather_S256x8192_S256x2_S256_n_01_n_n_01_1_11.startIndexMap from List.mem_cons_of_mem _ List.mem_cons_self)]
    refine Eq.trans (b := min (idx (ix2 r 1)).toInt.toNat 8191) ?_ (by rw [h1]; show min k.val 8191 = k.val; have := k.isLt; omega)
    refine congrArg (fun i => min (idx i).toInt.toNat 8191) (funext fun b => Fin.ext ?_)
    match b with | ⟨0, _⟩ => rfl | ⟨1, _⟩ => rfl

/-- The logit the reference takes at a row is the one at the row's label. -/
theorem picked (x0 : FVec Ideal S256x512 .bf16) (x1 : FVec Ideal S512x8192 .bf16) (x2 : IVec S256 32) (r : Fin 256) (l : Fin 8192)
    (hl : (x2 (ix1 r)).toNat = l.val) :
    val_main_v27 (F := Ideal) x0 x1 x2 (ix1 r) = val_main_v2 (F := Ideal) x0 x1 (ix2 r l) := by
  unfold val_main_v27
  have hr := r.isLt
  have hl' := l.isLt
  refine gather_apply _ _ r l ?_ ?_
  · rw [start_row, StableHlo.Predicate.toInt_ofNat_small _ (by omega)]; exact Int.toNat_natCast _
  · rw [start_label x2 r l hl, StableHlo.Predicate.toInt_eq_toNat_of_lt (by omega), Int.toNat_natCast, hl]

/-! ## The row's logarithm of the sum of exponentials -/

/-- The row's greatest logit is a real number. -/
theorem greatest_apply (x0 : FVec Ideal S256x512 .bf16) (x1 : FVec Ideal S512x8192 .bf16) (r : Fin 256) (w : Fin 8192 → ℝ)
    (hw : ∀ k, val_main_v2 (F := Ideal) x0 x1 (ix2 r k) = ((w k : ℝ) : EReal)) :
    ∃ M : ℝ, val_main_v3 (F := Ideal) x0 x1 (ix1 r) = M := by
  obtain ⟨M, hM⟩ := Cert.Row.greatest_real (by decide) w
  refine ⟨M, ?_⟩
  unfold val_main_v3
  have hb : (val_main_cst (F := Ideal)) (Shape.Idx.first h_S_) = (⊥ : EReal) := by
    show Ideal.ofBits .f32 0xFF800000#32 = ⊥
    simp [Ideal.ofBits, Ideal.ieee]
  refine (Host.reduce_eq_fold_single (FloatOps.maximumf (F := Ideal) (φ := .f32)) _ _ reducesTo_S256x8192_S256_d1 (by decide) h_S_ (ix1 r)).trans ?_
  rw [hb]
  refine Eq.trans ?_ hM
  refine congrArg (fun g => (Finset.univ : Finset (Fin 8192)).fold max (⊥ : EReal) g) (funext fun k => ?_)
  refine Eq.trans (congrArg (val_main_v2 (F := Ideal) x0 x1) ?_) (hw k)
  exact funext fun a => Fin.ext (by match a with | ⟨0, _⟩ => rfl | ⟨1, _⟩ => rfl)

/-- The reference's result at a row. -/
theorem loss_apply (x0 : FVec Ideal S256x512 .bf16) (x1 : FVec Ideal S512x8192 .bf16) (x2 : IVec S256 32) (r : Fin 256)
    (w : Fin 8192 → ℝ) (l : Fin 8192) (hl : (x2 (ix1 r)).toNat = l.val)
    (hw : ∀ k, val_main_v2 (F := Ideal) x0 x1 (ix2 r k) = ((w k : ℝ) : EReal)) :
    ∃ M : ℝ, val_main_v28 (F := Ideal) x0 x1 x2 (ix1 r)
      = ((M : EReal) + Ideal.log (0 + ∑ k, Ideal.exp (((w k : ℝ) : EReal) - M))) - ((w l : ℝ) : EReal) := by
  obtain ⟨M, hM⟩ := greatest_apply x0 x1 r w hw
  refine ⟨M, ?_⟩
  have i12 : idx_main_v12 (ix1 r) = ix2 r 0 := funext fun a => by
    match a with | ⟨0, _⟩ => exact Fin.ext (Nat.div_one _) | ⟨1, _⟩ => rfl
  have i4 : idx_main_v4 (ix2 r 0) = ix1 r := eq_ix1 _
  have i9 : idx_main_v9 (ix2 r 0) = ix1 r := eq_ix1 _
  have i8 : ∀ k : Fin 8192, idx_main_v8 (ix1 r) k = ix2 r k := fun k => eq_ix2 _
  have i5 : ∀ k : Fin 8192, idx_main_v5 (ix2 r k) = ix2 r 0 := fun k => eq_ix2 _
  have hz : (val_main_cst_0 (F := Ideal)) (Shape.Idx.first h_S_) = (0 : EReal) := Ideal.ofBits_zero_f32
  have h7 : ∀ k : Fin 8192, val_main_v7 (F := Ideal) x0 x1 (idx_main_v8 (ix1 r) k) = Ideal.exp (((w k : ℝ) : EReal) - M) := fun k => by
    rw [i8, val_main_v7_apply, val_main_v6_apply, val_main_v5_apply, i5, val_main_v4_apply, i4, hM, hw]
    rfl
  rw [val_main_v28_apply, val_main_v12_apply, i12, val_main_v11_apply, val_main_v4_apply, i4, hM, val_main_v10_apply, val_main_v9_apply,
    i9, val_main_v8_apply, hz, Finset.sum_congr rfl fun k _ => h7 k, picked x0 x1 x2 r l hl, hw]
  generalize (0 + ∑ k, Ideal.exp (((w k : ℝ) : EReal) - M) : EReal) = t
  rfl

end Cert.ReferenceIdeal.Nll

end
-- ==== Proof.Equation.lean ====
/-
  Under the precondition, every device's result is the reference's: a device's logits are the reference's at the columns
  of its half of the vocabulary, all of them real numbers.
-/
module

public import proofs.«01_k».proof.Defs
public import proofs.«01_k».proof.Proof.KernelValue
public import proofs.«01_k».proof.Proof.RefValue

@[expose] public section

noncomputable section

namespace Cert.KernelIdeal.Nll

open Idealize.ShloMosaic hiding ix1 ix2 eq_ix1 eq_ix2
open Idealize.ShloMosaic.TcCoe Idealize.ShloMosaic.ValueIdx
open Cert.KernelIdeal.Gen Cert.Row
open scoped BigOperators

/-! ## A device's logits -/

/-- The host multiplies the device's hidden states by its block of the weights. -/
theorem logits_eq {F : FTy → Type} [FloatOps F] (m : (ℓ : Loc nD τ sig) → Buf (Elt F) ℓ) (c : Dev nD) :
    logits m c = Host.dotGeneral dot_S256x512_S512x4096_S256x4096_1_0_0_1_n_n none
      (m ((c : Thread nD τ).loc main_arg0)) (m ((c : Thread nD τ).loc main_arg1)) := by
  unfold logits
  simp only [V, hostOps0]
  after_results_simp <;> rfl

/-- A product of the two, read at a place. -/
theorem dot_apply (a : FVec Ideal S256x512 .bf16) (b : FVec Ideal S512x4096 .bf16) (r : Fin 256) (j : Fin 4096) :
    (Host.dotGeneral dot_S256x512_S512x4096_S256x4096_1_0_0_1_n_n none a b : FVec Ideal S256x4096 .f32) (ix2 r j)
      = ∑ t : Fin 512, (a (ix2 r t) * b (ix2 t j) : EReal) := by
  simp only [Host.dotGeneral]
  let e := contrEquiv1 dot_S256x512_S512x4096_S256x4096_1_0_0_1_n_n 512 rfl rfl
  rw [Ideal.dotGeneral_apply, ← Equiv.sum_comp e.symm]
  refine Finset.sum_congr rfl fun t _ => ?_
  have ht := contrEquiv1_symm_val dot_S256x512_S512x4096_S256x4096_1_0_0_1_n_n 512 rfl rfl t
  refine congrArg₂ (fun x y : EReal => x * y) (congrArg a (funext fun q => Fin.ext ?_)) (congrArg b (funext fun q => Fin.ext ?_))
  · match q with
    | ⟨0, _⟩ =>
      unfold DotDims.lhsIdx
      rw [dif_neg (show ¬(⟨0, by decide⟩ : Fin S256x512.rank) ∈ dot_S256x512_S512x4096_S256x4096_1_0_0_1_n_n.lhsBatch from List.not_mem_nil),
        dif_pos (show (⟨0, by decide⟩ : Fin S256x512.rank) ∈ dot_S256x512_S512x4096_S256x4096_1_0_0_1_n_n.lhsNonContracting from List.mem_cons_self)]
      rfl
    | ⟨1, _⟩ => exact (DotDims.lhsIdx_val_of_single _ rfl _ _).trans ht
  · match q with
    | ⟨0, _⟩ => exact (DotDims.rhsIdx_val_of_single _ rfl _ _).trans ht
    | ⟨1, _⟩ =>
      unfold DotDims.rhsIdx
      rw [dif_neg (show ¬(⟨1, by decide⟩ : Fin S512x4096.rank) ∈ dot_S256x512_S512x4096_S256x4096_1_0_0_1_n_n.rhsBatch from List.not_mem_nil),
        dif_pos (show (⟨1, by decide⟩ : Fin S512x4096.rank) ∈ dot_S256x512_S512x4096_S256x4096_1_0_0_1_n_n.rhsNonContracting from List.mem_cons_self)]
      rfl

/-- The block of the weights a device holds, read at a place: the weights at that place of its half's columns. -/
theorem block_apply (x1 : FVec Ideal ⟨2, ![512, 8192]⟩ .bf16) (c : Dev nD) (t : Fin 512) (j : Fin 4096) :
    (Layout.blockN ⟨2, ![512, 4096]⟩ ⟨2, ![512, 8192]⟩ (Layout.meshBlock [2, 2] ![[], [0]] c) x1) (ix2 t j)
      = x1 (ix2 t (column (halfOf c) j)) := by
  rw [Layout.blockN_apply]
  refine congrArg x1 (funext fun q => Fin.ext ?_)
  rw [Layout.TilesN.idx_val, Layout.meshBlock_val]
  match q with
  | ⟨0, _⟩ => exact (congrArg (· + t.val) (Nat.zero_mul _)).trans (Nat.zero_add _)
  | ⟨1, _⟩ =>
    refine congrArg (fun x => x * 4096 + j.val) ?_
    show Layout.meshLin [2, 2] c.val [0] = c.val / 2
    revert c; decide

/-! ## The precondition -/

/-- An exact value whose absolute value is below infinity is a real number. -/
theorem real_of_below {x : EReal} (h : Ideal.cmp .olt (max x (-x)) ⊤ = 1#1) : ∃ w : ℝ, x = w := by
  have h' : max x (-x) < ⊤ := by
    by_contra hn
    simp [Ideal.cmp, hn] at h
  have hb : x ≠ ⊥ := fun e => by simp [e] at h'
  have ht : x ≠ ⊤ := fun e => by simp [e] at h'
  exact ⟨x.toReal, (EReal.coe_toReal ht hb).symm⟩

/-- The bound of the precondition's comparisons is infinity. -/
theorem bound_top : Ideal.ofBits .bf16 0x7F80#16 = ⊤ := by simp [Ideal.ofBits, Ideal.ieee]

/-- A signed word at least 0 and below 8192 is a number below 8192. -/
theorem label_lt {x : BitVec 32} (h : IntOp.cmpi .sge x 0#32 = 1#1) (h' : IntOp.cmpi .slt x 8192#32 = 1#1) : x.toNat < 8192 := by
  have hx := x.isLt
  simp only [IntOp.cmpi, BitVec.slt, BitVec.sle] at h h'
  rw [StableHlo.Predicate.ofBool_eq_one_iff, decide_eq_true_eq] at h h'
  have e := BitVec.toInt_eq_toNat_cond x
  simp at h h'
  split at e <;> omega

theorem pre_facts : Cert.Pre_finite_and_in_range_KernelIdeal.Facts := ⟨by decide, by decide, by decide⟩

section Equation

variable [Cert.Pre_finite_and_in_range_KernelIdeal.Facts]
variable (m : (ℓ : Loc nD τ sig) → Buf (Elt Ideal) ℓ) (x0 : FVec Ideal ⟨2, ![256, 512]⟩ .bf16) (x1 : FVec Ideal ⟨2, ![512, 8192]⟩ .bf16)
  (x2 : IVec ⟨1, ![256]⟩ 32)

/-- The devices hold the reference's arguments: the hidden states and the labels whole, the weights in two blocks. -/
def Holds : Prop := ∀ c : Dev nD, m ((c : Thread nD τ).loc main_arg0) = x0
  ∧ m ((c : Thread nD τ).loc main_arg1) = Layout.blockN ⟨2, ![512, 4096]⟩ ⟨2, ![512, 8192]⟩ (Layout.meshBlock [2, 2] ![[], [0]] c) x1
  ∧ m ((c : Thread nD τ).loc main_arg2) = x2

variable {m x0 x1 x2}
variable (hp : Cert.Pre_KernelIdeal_finite_and_in_range_KernelIdeal m) (hm : Holds m x0 x1 x2)
include hp hm

/-- Under the precondition the hidden states are real numbers, -/
theorem hidden_real (i : S256x512.Idx) : ∃ w : ℝ, x0 i = ((w : ℝ) : EReal) := by
  refine real_of_below ?_
  have h := congrFun (hp 0).1 i
  rw [← bound_top, ← (hm 0).1]
  exact h

/-- the weights are, each of them held by a device of its half, -/
theorem weight_real (t : Fin 512) (k : Fin 8192) : ∃ w : ℝ, x1 (ix2 t k) = ((w : ℝ) : EReal) := by
  have key : ∀ (c : Dev nD) (j : Fin 4096), ∃ w : ℝ, x1 (ix2 t (column (halfOf c) j)) = ((w : ℝ) : EReal) := fun c j => by
    refine real_of_below ?_
    have h := congrFun (hp c).2.1 (ix2 t j)
    rw [← bound_top, ← block_apply x1 c t j, ← (hm c).2.1]
    exact h
  have hk := k.isLt
  by_cases h : k.val < 4096
  · have e : column (halfOf 0) ⟨k.val, h⟩ = k := Fin.ext (by show 0 / 2 * 4096 + k.val = k.val; omega)
    exact e ▸ key 0 ⟨k.val, h⟩
  · have e : column (halfOf 2) ⟨k.val - 4096, by omega⟩ = k := Fin.ext (by show 2 / 2 * 4096 + (k.val - 4096) = k.val; omega)
    exact e ▸ key 2 ⟨k.val - 4096, by omega⟩

/-- and the labels are columns of the vocabulary. -/
theorem label_column (r : Fin 256) : (x2 (ix1 r)).toNat < 8192 := by
  have h := congrFun (hp 0).2.2.1 (ix1 r)
  have h' := congrFun (hp 0).2.2.2 (ix1 r)
  rw [← (hm 0).2.2]
  exact label_lt h h'

/-- Every device's result is the reference's. -/
theorem result_eq (c : Dev nD) : result m c = Cert.ReferenceIdeal.Read.val_main_v28 (F := Ideal) x0 x1 x2 := by
  funext i
  obtain ⟨r, rfl⟩ : ∃ r : Fin 256, i = ix1 r := ⟨i 0, eq_ix1 i⟩
  choose a ha using fun t : Fin 512 => hidden_real hp hm (ix2 r t)
  choose b hb using fun t : Fin 512 => weight_real hp hm t
  let w : Fin 8192 → ℝ := fun k => ∑ t, a t * b t k
  let l : Fin 8192 := ⟨(x2 (ix1 r)).toNat, label_column hp hm r⟩
  have products : ∀ k : Fin 8192, (∑ t : Fin 512, (x0 (ix2 r t) * x1 (ix2 t k) : EReal)) = ((w k : ℝ) : EReal) := fun k => by
    rw [← sum_real]
    exact Finset.sum_congr rfl fun t _ => by rw [ha, hb, EReal.coe_mul]
  have hz : ∀ k, Cert.ReferenceIdeal.Read.val_main_v2 (F := Ideal) x0 x1 (ix2 r k) = ((w k : ℝ) : EReal) := fun k => by
    rw [Cert.ReferenceIdeal.Read.val_main_v2_apply]
    refine Eq.trans (Finset.sum_congr rfl fun t _ => ?_) (products k)
    rw [Cert.ReferenceIdeal.Read.val_main_v0_apply, Cert.ReferenceIdeal.Read.val_main_v1_apply]
    exact congrArg₂ (fun x y : EReal => x * y) (congrArg x0 (eq_ix2 _)) (congrArg x1 (eq_ix2 _))
  have hx : ∀ (d : Dev nD) (j : Fin 4096), logits m d (ix2 r j) = ((w (column (halfOf d) j) : ℝ) : EReal) := fun d j => by
    rw [logits_eq, (hm d).1, (hm d).2.1]
    refine (dot_apply _ _ r j).trans (Eq.trans (Finset.sum_congr rfl fun t _ => ?_) (products _))
    rw [block_apply]
  have hy : ∀ d : Dev nD, (labels m d (ix1 r)).toNat = l.val := fun d => by
    unfold labels
    rw [V_main_arg2, (hm d).2.2]
  obtain ⟨M, hM⟩ := Cert.ReferenceIdeal.Nll.loss_apply x0 x1 x2 r w l rfl hz
  rw [hM, ← loss_eq w l (halfOf c) M]
  unfold result
  rw [writesOut_apply c _ _ _ _ r l (hy c) (hy (peer c))]
  simp only [hx, halfOf_peer]

end Equation

end Cert.KernelIdeal.Nll

end
-- ==== Proof.lean ====
/-
  The certificate: the kernel terminates and comes to rest at both instances, the idealized kernel is the kernel, and under
  the precondition every device's result over exact values is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Equation

@[expose] public section

noncomputable section

namespace Cert.Proof

open Idealize.ShloMosaic Idealize.SL.Sem
open Cert.KernelIdeal.Nll (run_main result result_eq)

/-! ## The runs -/

/-- The kernel and its idealized print name the same code at every label. -/
theorem bodies_eq : Cert.Kernel.defs₀ (F := Bits) = Cert.KernelIdeal.defs₀ (F := Bits) := by
  unfold Cert.Kernel.defs₀ Cert.KernelIdeal.defs₀
  refine congrArg Defs.onTc (funext fun c => funext fun i => ?_)
  match c with
  | ⟨0, _⟩ => rfl
  | ⟨_ + 1, h⟩ => exact absurd h (Nat.not_lt.2 (Nat.le_add_left _ _))
theorem defs_eq : Cert.Kernel.defs (F := Bits) = Cert.KernelIdeal.defs (F := Bits) :=
  congrArg (Pipeline.defs (Cert.KernelIdeal.pcfgs (F := Bits))) bodies_eq

/-- The kernel runs, leaves its arguments alone and ends with every counter at zero. -/
theorem frame_kernel : Cert.quiescent_Kernel := fun m g _ => by
  rw [defs_eq]
  exact (θ_run Cert.KernelIdeal.defs _ _).mono (fun _ h => ⟨fun c => (h.1 c).2, h.2⟩) (run_main (F := Bits) m g)

/-- The same of the kernel over exact values. -/
theorem frame_kernelIdeal : Cert.quiescent_KernelIdeal := fun m g _ =>
  (θ_run Cert.KernelIdeal.defs _ _).mono (fun _ h => ⟨fun c => (h.1 c).2, h.2⟩) (run_main (F := Ideal) m g)

/-- The same of the reference, which has no semaphores. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

/-! ## The equation -/

instance : Cert.Pre_finite_and_in_range_KernelIdeal.Facts := Cert.KernelIdeal.Nll.pre_facts
theorem pre_facts_reference : Cert.Pre_finite_and_in_range_ReferenceIdeal.Facts := ⟨by decide, by decide, by decide⟩

/-- Under the precondition every device ends with the reference's result. -/
theorem equation : Cert.algebraic_KernelIdeal_ReferenceIdeal_pre_finite_and_in_range_KernelIdeal := fun m g m' g' hp hm =>
  ⟨Cert.ReferenceIdeal.Read.val_main_v28 (F := Ideal) _ _ _,
    (θ_run Cert.KernelIdeal.defs _ _).mono
      (fun _ h c => ⟨(h.1 c).1.trans (result_eq hp hm c), (h.1 c).2⟩) (run_main (F := Ideal) m g),
    (θ_run Cert.ReferenceIdeal.defs _ _).mono
      (fun _ h => ⟨(h 0).1.trans (Cert.ReferenceIdeal.Read.val_main_v28_eq _ _ _), (h 0).2⟩)
      (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, Cert.KernelIdeal.Nll.pre_facts, pre_facts_reference,
    frame_kernel, frame_kernelIdeal, fun m g _ => frame_kernelIdeal m g trivial, frame_reference,
    fun m g _ => frame_reference m g trivial, trivial, equation⟩

end Cert.Proof

end
